-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_one_ids [hPre_zero_one_ids : Cert.Pre_zero_one_ids.Facts] (m : (ℓ : Loc Cert.KernelIdeal.nD Cert.KernelIdeal.τ Cert.KernelIdeal.sig) → Buf (Elt Ideal) ℓ) : Prop :=
  ∀ c : Dev Cert.KernelIdeal.nD,
    (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2.2.2.1 = (fun _ => 1#1)
    ∧ (Cert.Pre_zero_one_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_one_ids [hPre_zero_one_ids : Cert.Pre_zero_one_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2.2.2.1 = (fun _ => 1#1)
    ∧ (Cert.Pre_zero_one_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_zero_one_ids [hKernelIdeal : Cert.KernelIdeal.Facts] [hPre_zero_one_ids : Cert.Pre_zero_one_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_one_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_zero_one_ids [hReferenceIdeal : Cert.ReferenceIdeal.Facts] [hPre_zero_one_ids : Cert.Pre_zero_one_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_one_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_zero_one_ids [hKernelIdeal : Cert.KernelIdeal.Facts] [hReferenceIdeal : Cert.ReferenceIdeal.Facts] [hPre_zero_one_ids : Cert.Pre_zero_one_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_one_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_zero_one_ids : Cert.Pre_zero_one_ids.Facts),
    quiescent_Kernel (hKernel := hKernel)
    ∧ quiescent_KernelIdeal (hKernelIdeal := hKernelIdeal)
    ∧ quiescent_KernelIdeal_pre_zero_one_ids (hKernelIdeal := hKernelIdeal) (hPre_zero_one_ids := hPre_zero_one_ids)
    ∧ quiescent_ReferenceIdeal (hReferenceIdeal := hReferenceIdeal)
    ∧ quiescent_ReferenceIdeal_pre_zero_one_ids (hReferenceIdeal := hReferenceIdeal) (hPre_zero_one_ids := hPre_zero_one_ids)
    ∧ preserves_Kernel_KernelIdeal
    ∧ algebraic_KernelIdeal_ReferenceIdeal_pre_zero_one_ids (hKernelIdeal := hKernelIdeal) (hReferenceIdeal := hReferenceIdeal) (hPre_zero_one_ids := hPre_zero_one_ids)
-- ==== Pre_zero_one_ids.lean ====
abbrev S16384x13 : Shape := ⟨2, ![16384, 13]⟩
abbrev S1000001x16 : Shape := ⟨2, ![1000001, 16]⟩
abbrev S100001x16 : Shape := ⟨2, ![100001, 16]⟩
abbrev S8x8 : Shape := ⟨2, ![8, 8]⟩
abbrev S22x16 : Shape := ⟨2, ![22, 16]⟩
abbrev S83x8 : Shape := ⟨2, ![83, 8]⟩
abbrev S11x4 : Shape := ⟨2, ![11, 4]⟩
abbrev S1000001x1 : Shape := ⟨2, ![1000001, 1]⟩
abbrev S100001x1 : Shape := ⟨2, ![100001, 1]⟩
abbrev S2x1 : Shape := ⟨2, ![2, 1]⟩
abbrev S8x1 : Shape := ⟨2, ![8, 1]⟩
abbrev S22x1 : Shape := ⟨2, ![22, 1]⟩
abbrev S83x1 : Shape := ⟨2, ![83, 1]⟩
abbrev S11x1 : Shape := ⟨2, ![11, 1]⟩
abbrev S6x1 : Shape := ⟨2, ![6, 1]⟩
abbrev S1 : Shape := ⟨1, ![1]⟩
abbrev S664x1 : Shape := ⟨2, ![664, 1]⟩
abbrev S75x256 : Shape := ⟨2, ![75, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S16384x7 : Shape := ⟨2, ![16384, 7]⟩
abbrev S_ : Shape := ⟨0, ![]⟩
abbrev S2x16 : Shape := ⟨2, ![2, 16]⟩
abbrev S2x8 : Shape := ⟨2, ![2, 8]⟩
abbrev S2x4 : Shape := ⟨2, ![2, 4]⟩
abbrev S68x256 : Shape := ⟨2, ![68, 256]⟩

class Facts : Prop where
  slices_S16384x13_S16384x7_0_0 : S16384x13.Slices ![0, 0] S16384x7
  bcast_S_S16384x7 : S_.BroadcastsInDim S16384x7 (![] : Fin 0 → Fin S16384x7.rank)
  slices_S1000001x16_S2x16_0_0 : S1000001x16.Slices ![0, 0] S2x16
  bcast_S_S2x16 : S_.BroadcastsInDim S2x16 (![] : Fin 0 → Fin S2x16.rank)
  slices_S100001x16_S2x16_0_0 : S100001x16.Slices ![0, 0] S2x16
  slices_S8x8_S2x8_0_0 : S8x8.Slices ![0, 0] S2x8
  bcast_S_S2x8 : S_.BroadcastsInDim S2x8 (![] : Fin 0 → Fin S2x8.rank)
  slices_S22x16_S2x16_0_0 : S22x16.Slices ![0, 0] S2x16
  slices_S83x8_S2x8_0_0 : S83x8.Slices ![0, 0] S2x8
  slices_S11x4_S2x4_0_0 : S11x4.Slices ![0, 0] S2x4
  bcast_S_S2x4 : S_.BroadcastsInDim S2x4 (![] : Fin 0 → Fin S2x4.rank)
  slices_S1000001x1_S2x1_0_0 : S1000001x1.Slices ![0, 0] S2x1
  bcast_S_S2x1 : S_.BroadcastsInDim S2x1 (![] : Fin 0 → Fin S2x1.rank)
  slices_S100001x1_S2x1_0_0 : S100001x1.Slices ![0, 0] S2x1
  slices_S8x1_S2x1_0_0 : S8x1.Slices ![0, 0] S2x1
  slices_S22x1_S2x1_0_0 : S22x1.Slices ![0, 0] S2x1
  slices_S83x1_S2x1_0_0 : S83x1.Slices ![0, 0] S2x1
  slices_S11x1_S2x1_0_0 : S11x1.Slices ![0, 0] S2x1
  slices_S664x1_S2x1_0_0 : S664x1.Slices ![0, 0] S2x1
  slices_S664x1_S2x1_83_0 : S664x1.Slices ![83, 0] S2x1
  slices_S75x256_S68x256_0_0 : S75x256.Slices ![0, 0] S68x256
  bcast_S_S68x256 : S_.BroadcastsInDim S68x256 (![] : Fin 0 → Fin S68x256.rank)

variable [Facts]

def fn_part3 {F : FTy → Type} [FloatOps F] (main_arg16 : FVec F S664x1 .f32) (main_arg17 : FVec F S75x256 .f32) (main_v5 : IVec S16384x7 1) (main_v9 : IVec S2x16 1) (main_v13 : IVec S2x16 1) (main_v17 : IVec S2x8 1) (main_v21 : IVec S2x16 1) (main_v25 : IVec S2x8 1) (main_v29 : IVec S2x4 1) (main_v33 : IVec S2x1 1) (main_v37 : IVec S2x1 1) (main_v40 : IVec S2x1 1) (main_v44 : IVec S2x1 1) (main_v48 : IVec S2x1 1) (main_v52 : IVec S2x1 1) (main_v56 : IVec S2x1 1) : IVec S16384x7 1 × IVec S2x16 1 × IVec S2x16 1 × IVec S2x8 1 × IVec S2x16 1 × IVec S2x8 1 × IVec S2x4 1 × IVec S2x1 1 × IVec S2x1 1 × IVec S2x1 1 × IVec S2x1 1 × IVec S2x1 1 × IVec S2x1 1 × IVec S2x1 1 × IVec S2x1 1 × IVec S2x1 1 × IVec S68x256 1 :=
  let main_v57 : FVec F S2x1 .f32 := (extractStridedSlice S2x1 ![0, 0] · slices_S664x1_S2x1_0_0) main_arg16
  let main_v58 : FVec F S2x1 .f32 := Host.absf main_v57
  let main_cst_14 : FVec F S_ .f32 := constant S_ .f32 0x7F800000#32
  let main_v59 : FVec F S2x1 .f32 := broadcastInDim S2x1 ![] bcast_S_S2x1 main_cst_14
  let main_v60 : IVec S2x1 1 := cmpf .olt main_v58 main_v59
  let main_v61 : FVec F S2x1 .f32 := (extractStridedSlice S2x1 ![83, 0] · slices_S664x1_S2x1_83_0) main_arg16
  let main_v62 : FVec F S2x1 .f32 := Host.absf main_v61
  let main_cst_15 : FVec F S_ .f32 := constant S_ .f32 0x7F800000#32
  let main_v63 : FVec F S2x1 .f32 := broadcastInDim S2x1 ![] bcast_S_S2x1 main_cst_15
  let main_v64 : IVec S2x1 1 := cmpf .olt main_v62 main_v63
  let main_v65 : FVec F S68x256 .f32 := (extractStridedSlice S68x256 ![0, 0] · slices_S75x256_S68x256_0_0) main_arg17
  let main_v66 : FVec F S68x256 .f32 := Host.absf main_v65
  let main_cst_16 : FVec F S_ .f32 := constant S_ .f32 0x7F800000#32
  let main_v67 : FVec F S68x256 .f32 := broadcastInDim S68x256 ![] bcast_S_S68x256 main_cst_16
  let main_v68 : IVec S68x256 1 := cmpf .olt main_v66 main_v67
  (main_v5, main_v9, main_v13, main_v17, main_v21, main_v25, main_v29, main_v33, main_v37, main_v40, main_v44, main_v48, main_v52, main_v56, main_v60, main_v64, main_v68)

def fn_part2 {F : FTy → Type} [FloatOps F] (main_arg9 : FVec F S2x1 .f32) (main_arg10 : FVec F S8x1 .f32) (main_arg11 : FVec F S22x1 .f32) (main_arg12 : FVec F S83x1 .f32) (main_arg13 : FVec F S11x1 .f32) (main_arg16 : FVec F S664x1 .f32) (main_arg17 : FVec F S75x256 .f32) (main_v5 : IVec S16384x7 1) (main_v9 : IVec S2x16 1) (main_v13 : IVec S2x16 1) (main_v17 : IVec S2x8 1) (main_v21 : IVec S2x16 1) (main_v25 : IVec S2x8 1) (main_v29 : IVec S2x4 1) (main_v33 : IVec S2x1 1) (main_v37 : IVec S2x1 1) : IVec S16384x7 1 × IVec S2x16 1 × IVec S2x16 1 × IVec S2x8 1 × IVec S2x16 1 × IVec S2x8 1 × IVec S2x4 1 × IVec S2x1 1 × IVec S2x1 1 × IVec S2x1 1 × IVec S2x1 1 × IVec S2x1 1 × IVec S2x1 1 × IVec S2x1 1 × IVec S2x1 1 × IVec S2x1 1 × IVec S68x256 1 :=
  let main_v38 : FVec F S2x1 .f32 := Host.absf main_arg9
  let main_cst_9 : FVec F S_ .f32 := constant S_ .f32 0x7F800000#32
  let main_v39 : FVec F S2x1 .f32 := broadcastInDim S2x1 ![] bcast_S_S2x1 main_cst_9
  let main_v40 : IVec S2x1 1 := cmpf .olt main_v38 main_v39
  let main_v41 : FVec F S2x1 .f32 := (extractStridedSlice S2x1 ![0, 0] · slices_S8x1_S2x1_0_0) main_arg10
  let main_v42 : FVec F S2x1 .f32 := Host.absf main_v41
  let main_cst_10 : FVec F S_ .f32 := constant S_ .f32 0x7F800000#32
  let main_v43 : FVec F S2x1 .f32 := broadcastInDim S2x1 ![] bcast_S_S2x1 main_cst_10
  let main_v44 : IVec S2x1 1 := cmpf .olt main_v42 main_v43
  let main_v45 : FVec F S2x1 .f32 := (extractStridedSlice S2x1 ![0, 0] · slices_S22x1_S2x1_0_0) main_arg11
  let main_v46 : FVec F S2x1 .f32 := Host.absf main_v45
  let main_cst_11 : FVec F S_ .f32 := constant S_ .f32 0x7F800000#32
  let main_v47 : FVec F S2x1 .f32 := broadcastInDim S2x1 ![] bcast_S_S2x1 main_cst_11
  let main_v48 : IVec S2x1 1 := cmpf .olt main_v46 main_v47
  let main_v49 : FVec F S2x1 .f32 := (extractStridedSlice S2x1 ![0, 0] · slices_S83x1_S2x1_0_0) main_arg12
  let main_v50 : FVec F S2x1 .f32 := Host.absf main_v49
  let main_cst_12 : FVec F S_ .f32 := constant S_ .f32 0x7F800000#32
  let main_v51 : FVec F S2x1 .f32 := broadcastInDim S2x1 ![] bcast_S_S2x1 main_cst_12
  let main_v52 : IVec S2x1 1 := cmpf .olt main_v50 main_v51
  let main_v53 : FVec F S2x1 .f32 := (extractStridedSlice S2x1 ![0, 0] · slices_S11x1_S2x1_0_0) main_arg13
  let main_v54 : FVec F S2x1 .f32 := Host.absf main_v53
  let main_cst_13 : FVec F S_ .f32 := constant S_ .f32 0x7F800000#32
  let main_v55 : FVec F S2x1 .f32 := broadcastInDim S2x1 ![] bcast_S_S2x1 main_cst_13
  let main_v56 : IVec S2x1 1 := cmpf .olt main_v54 main_v55
  fn_part3 (F := F) main_arg16 main_arg17 main_v5 main_v9 main_v13 main_v17 main_v21 main_v25 main_v29 main_v33 main_v37 main_v40 main_v44 main_v48 main_v52 main_v56

def fn_part1 {F : FTy → Type} [FloatOps F] (main_arg5 : FVec F S83x8 .f32) (main_arg6 : FVec F S11x4 .f32) (main_arg7 : FVec F S1000001x1 .f32) (main_arg8 : FVec F S100001x1 .f32) (main_arg9 : FVec F S2x1 .f32) (main_arg10 : FVec F S8x1 .f32) (main_arg11 : FVec F S22x1 .f32) (main_arg12 : FVec F S83x1 .f32) (main_arg13 : FVec F S11x1 .f32) (main_arg16 : FVec F S664x1 .f32) (main_arg17 : FVec F S75x256 .f32) (main_v5 : IVec S16384x7 1) (main_v9 : IVec S2x16 1) (main_v13 : IVec S2x16 1) (main_v17 : IVec S2x8 1) (main_v18 : FVec F S2x16 .f32) : IVec S16384x7 1 × IVec S2x16 1 × IVec S2x16 1 × IVec S2x8 1 × IVec S2x16 1 × IVec S2x8 1 × IVec S2x4 1 × IVec S2x1 1 × IVec S2x1 1 × IVec S2x1 1 × IVec S2x1 1 × IVec S2x1 1 × IVec S2x1 1 × IVec S2x1 1 × IVec S2x1 1 × IVec S2x1 1 × IVec S68x256 1 :=
  let main_v19 : FVec F S2x16 .f32 := Host.absf main_v18
  let main_cst_4 : FVec F S_ .f32 := constant S_ .f32 0x7F800000#32
  let main_v20 : FVec F S2x16 .f32 := broadcastInDim S2x16 ![] bcast_S_S2x16 main_cst_4
  let main_v21 : IVec S2x16 1 := cmpf .olt main_v19 main_v20
  let main_v22 : FVec F S2x8 .f32 := (extractStridedSlice S2x8 ![0, 0] · slices_S83x8_S2x8_0_0) main_arg5
  let main_v23 : FVec F S2x8 .f32 := Host.absf main_v22
  let main_cst_5 : FVec F S_ .f32 := constant S_ .f32 0x7F800000#32
  let main_v24 : FVec F S2x8 .f32 := broadcastInDim S2x8 ![] bcast_S_S2x8 main_cst_5
  let main_v25 : IVec S2x8 1 := cmpf .olt main_v23 main_v24
  let main_v26 : FVec F S2x4 .f32 := (extractStridedSlice S2x4 ![0, 0] · slices_S11x4_S2x4_0_0) main_arg6
  let main_v27 : FVec F S2x4 .f32 := Host.absf main_v26
  let main_cst_6 : FVec F S_ .f32 := constant S_ .f32 0x7F800000#32
  let main_v28 : FVec F S2x4 .f32 := broadcastInDim S2x4 ![] bcast_S_S2x4 main_cst_6
  let main_v29 : IVec S2x4 1 := cmpf .olt main_v27 main_v28
  let main_v30 : FVec F S2x1 .f32 := (extractStridedSlice S2x1 ![0, 0] · slices_S1000001x1_S2x1_0_0) main_arg7
  let main_v31 : FVec F S2x1 .f32 := Host.absf main_v30
  let main_cst_7 : FVec F S_ .f32 := constant S_ .f32 0x7F800000#32
  let main_v32 : FVec F S2x1 .f32 := broadcastInDim S2x1 ![] bcast_S_S2x1 main_cst_7
  let main_v33 : IVec S2x1 1 := cmpf .olt main_v31 main_v32
  let main_v34 : FVec F S2x1 .f32 := (extractStridedSlice S2x1 ![0, 0] · slices_S100001x1_S2x1_0_0) main_arg8
  let main_v35 : FVec F S2x1 .f32 := Host.absf main_v34
  let main_cst_8 : FVec F S_ .f32 := constant S_ .f32 0x7F800000#32
  let main_v36 : FVec F S2x1 .f32 := broadcastInDim S2x1 ![] bcast_S_S2x1 main_cst_8
  let main_v37 : IVec S2x1 1 := cmpf .olt main_v35 main_v36
  fn_part2 (F := F) main_arg9 main_arg10 main_arg11 main_arg12 main_arg13 main_arg16 main_arg17 main_v5 main_v9 main_v13 main_v17 main_v21 main_v25 main_v29 main_v33 main_v37

def fn {F : FTy → Type} [FloatOps F] (main_arg0 : FVec F S16384x13 .f32) (main_arg1 : FVec F S1000001x16 .f32) (main_arg2 : FVec F S100001x16 .f32) (main_arg3 : FVec F S8x8 .f32) (main_arg4 : FVec F S22x16 .f32) (main_arg5 : FVec F S83x8 .f32) (main_arg6 : FVec F S11x4 .f32) (main_arg7 : FVec F S1000001x1 .f32) (main_arg8 : FVec F S100001x1 .f32) (main_arg9 : FVec F S2x1 .f32) (main_arg10 : FVec F S8x1 .f32) (main_arg11 : FVec F S22x1 .f32) (main_arg12 : FVec F S83x1 .f32) (main_arg13 : FVec F S11x1 .f32) (main_arg14 : FVec F S6x1 .f32) (main_arg15 : FVec F S1 .f32) (main_arg16 : FVec F S664x1 .f32) (main_arg17 : FVec F S75x256 .f32) (main_arg18 : FVec F S256 .f32) (main_arg19 : FVec F S256x128 .f32) (main_arg20 : FVec F S128 .f32) (main_arg21 : FVec F S128x1 .f32) (main_arg22 : FVec F S1 .f32) : IVec S16384x7 1 × IVec S2x16 1 × IVec S2x16 1 × IVec S2x8 1 × IVec S2x16 1 × IVec S2x8 1 × IVec S2x4 1 × IVec S2x1 1 × IVec S2x1 1 × IVec S2x1 1 × IVec S2x1 1 × IVec S2x1 1 × IVec S2x1 1 × IVec S2x1 1 × IVec S2x1 1 × IVec S2x1 1 × IVec S68x256 1 :=
  let main_v0 : FVec F S16384x7 .f32 := (extractStridedSlice S16384x7 ![0, 0] · slices_S16384x13_S16384x7_0_0) main_arg0
  let main_cst : FVec F S_ .f32 := constant S_ .f32 0x00000000#32
  let main_v1 : FVec F S16384x7 .f32 := broadcastInDim S16384x7 ![] bcast_S_S16384x7 main_cst
  let main_v2 : IVec S16384x7 1 := cmpf .oeq main_v0 main_v1
  let main_cst_0 : FVec F S_ .f32 := constant S_ .f32 0x3F800000#32
  let main_v3 : FVec F S16384x7 .f32 := broadcastInDim S16384x7 ![] bcast_S_S16384x7 main_cst_0
  let main_v4 : IVec S16384x7 1 := cmpf .oeq main_v0 main_v3
  let main_v5 : IVec S16384x7 1 := ori main_v2 main_v4
  let main_v6 : FVec F S2x16 .f32 := (extractStridedSlice S2x16 ![0, 0] · slices_S1000001x16_S2x16_0_0) main_arg1
  let main_v7 : FVec F S2x16 .f32 := Host.absf main_v6
  let main_cst_1 : FVec F S_ .f32 := constant S_ .f32 0x7F800000#32
  let main_v8 : FVec F S2x16 .f32 := broadcastInDim S2x16 ![] bcast_S_S2x16 main_cst_1
  let main_v9 : IVec S2x16 1 := cmpf .olt main_v7 main_v8
  let main_v10 : FVec F S2x16 .f32 := (extractStridedSlice S2x16 ![0, 0] · slices_S100001x16_S2x16_0_0) main_arg2
  let main_v11 : FVec F S2x16 .f32 := Host.absf main_v10
  let main_cst_2 : FVec F S_ .f32 := constant S_ .f32 0x7F800000#32
  let main_v12 : FVec F S2x16 .f32 := broadcastInDim S2x16 ![] bcast_S_S2x16 main_cst_2
  let main_v13 : IVec S2x16 1 := cmpf .olt main_v11 main_v12
  let main_v14 : FVec F S2x8 .f32 := (extractStridedSlice S2x8 ![0, 0] · slices_S8x8_S2x8_0_0) main_arg3
  let main_v15 : FVec F S2x8 .f32 := Host.absf main_v14
  let main_cst_3 : FVec F S_ .f32 := constant S_ .f32 0x7F800000#32
  let main_v16 : FVec F S2x8 .f32 := broadcastInDim S2x8 ![] bcast_S_S2x8 main_cst_3
  let main_v17 : IVec S2x8 1 := cmpf .olt main_v15 main_v16
  let main_v18 : FVec F S2x16 .f32 := (extractStridedSlice S2x16 ![0, 0] · slices_S22x16_S2x16_0_0) main_arg4
  fn_part1 (F := F) main_arg5 main_arg6 main_arg7 main_arg8 main_arg9 main_arg10 main_arg11 main_arg12 main_arg13 main_arg16 main_arg17 main_v5 main_v9 main_v13 main_v17 main_v18
-- ==== Kernel.lean ====
abbrev S16384x13 : Shape := ⟨2, ![16384, 13]⟩
abbrev S1000001x16 : Shape := ⟨2, ![1000001, 16]⟩
abbrev S100001x16 : Shape := ⟨2, ![100001, 16]⟩
abbrev S8x8 : Shape := ⟨2, ![8, 8]⟩
abbrev S22x16 : Shape := ⟨2, ![22, 16]⟩
abbrev S83x8 : Shape := ⟨2, ![83, 8]⟩
abbrev S11x4 : Shape := ⟨2, ![11, 4]⟩
abbrev S1000001x1 : Shape := ⟨2, ![1000001, 1]⟩
abbrev S100001x1 : Shape := ⟨2, ![100001, 1]⟩
abbrev S2x1 : Shape := ⟨2, ![2, 1]⟩
abbrev S8x1 : Shape := ⟨2, ![8, 1]⟩
abbrev S22x1 : Shape := ⟨2, ![22, 1]⟩
abbrev S83x1 : Shape := ⟨2, ![83, 1]⟩
abbrev S11x1 : Shape := ⟨2, ![11, 1]⟩
abbrev S6x1 : Shape := ⟨2, ![6, 1]⟩
abbrev S1 : Shape := ⟨1, ![1]⟩
abbrev S664x1 : Shape := ⟨2, ![664, 1]⟩
abbrev S75x256 : Shape := ⟨2, ![75, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S8x16 : Shape := ⟨2, ![8, 16]⟩
abbrev S8x4 : Shape := ⟨2, ![8, 4]⟩
abbrev S88x1 : Shape := ⟨2, ![88, 1]⟩
abbrev S1x1 : Shape := ⟨2, ![1, 1]⟩
abbrev S1x256 : Shape := ⟨2, ![1, 256]⟩
abbrev S1x128 : Shape := ⟨2, ![1, 128]⟩
abbrev S16384x1 : Shape := ⟨2, ![16384, 1]⟩
abbrev S8192x13 : Shape := ⟨2, ![8192, 13]⟩
abbrev S8192x1 : Shape := ⟨2, ![8192, 1]⟩
abbrev S1x16 : Shape := ⟨2, ![1, 16]⟩
abbrev S16x256 : Shape := ⟨2, ![16, 256]⟩
abbrev S1x8 : Shape := ⟨2, ![1, 8]⟩
abbrev S8x256 : Shape := ⟨2, ![8, 256]⟩
abbrev S1x4 : Shape := ⟨2, ![1, 4]⟩
abbrev S4x256 : Shape := ⟨2, ![4, 256]⟩
abbrev S6x256 : Shape := ⟨2, ![6, 256]⟩
abbrev S13x256 : Shape := ⟨2, ![13, 256]⟩
abbrev S13x1 : Shape := ⟨2, ![13, 1]⟩
abbrev S13x126 : Shape := ⟨2, ![13, 126]⟩
abbrev S13x128 : Shape := ⟨2, ![13, 128]⟩
abbrev S1x125 : Shape := ⟨2, ![1, 125]⟩
abbrev S384x1 : Shape := ⟨2, ![384, 1]⟩
abbrev S8192x256 : Shape := ⟨2, ![8192, 256]⟩
abbrev S8192x128 : Shape := ⟨2, ![8192, 128]⟩
abbrev S8192x384 : Shape := ⟨2, ![8192, 384]⟩
abbrev S16384 : Shape := ⟨1, ![16384]⟩

abbrev nBuf : Space → Nat
  | .hbm => 42
  | .vmem => 26
  | .smem => 0
  | _ => 0

abbrev bufTy : (tb : Table) → Fin (tcTables nBuf tb) → BufTy
  | .hbm, ⟨0, _⟩ => ⟨S16384x13, .f32⟩
  | .hbm, ⟨1, _⟩ => ⟨S1000001x16, .f32⟩
  | .hbm, ⟨2, _⟩ => ⟨S100001x16, .f32⟩
  | .hbm, ⟨3, _⟩ => ⟨S8x8, .f32⟩
  | .hbm, ⟨4, _⟩ => ⟨S22x16, .f32⟩
  | .hbm, ⟨5, _⟩ => ⟨S83x8, .f32⟩
  | .hbm, ⟨6, _⟩ => ⟨S11x4, .f32⟩
  | .hbm, ⟨7, _⟩ => ⟨S1000001x1, .f32⟩
  | .hbm, ⟨8, _⟩ => ⟨S100001x1, .f32⟩
  | .hbm, ⟨9, _⟩ => ⟨S2x1, .f32⟩
  | .hbm, ⟨10, _⟩ => ⟨S8x1, .f32⟩
  | .hbm, ⟨11, _⟩ => ⟨S22x1, .f32⟩
  | .hbm, ⟨12, _⟩ => ⟨S83x1, .f32⟩
  | .hbm, ⟨13, _⟩ => ⟨S11x1, .f32⟩
  | .hbm, ⟨14, _⟩ => ⟨S6x1, .f32⟩
  | .hbm, ⟨15, _⟩ => ⟨S1, .f32⟩
  | .hbm, ⟨16, _⟩ => ⟨S664x1, .f32⟩
  | .hbm, ⟨17, _⟩ => ⟨S75x256, .f32⟩
  | .hbm, ⟨18, _⟩ => ⟨S256, .f32⟩
  | .hbm, ⟨19, _⟩ => ⟨S256x128, .f32⟩
  | .hbm, ⟨20, _⟩ => ⟨S128, .f32⟩
  | .hbm, ⟨21, _⟩ => ⟨S128x1, .f32⟩
  | .hbm, ⟨22, _⟩ => ⟨S1, .f32⟩
  | .hbm, ⟨23, _⟩ => ⟨S8x16, .f32⟩
  | .hbm, ⟨24, _⟩ => ⟨S8x16, .f32⟩
  | .hbm, ⟨25, _⟩ => ⟨S8x8, .f32⟩
  | .hbm, ⟨26, _⟩ => ⟨S8x16, .f32⟩
  | .hbm, ⟨27, _⟩ => ⟨S8x8, .f32⟩
  | .hbm, ⟨28, _⟩ => ⟨S8x4, .f32⟩
  | .hbm, ⟨29, _⟩ => ⟨S8x1, .f32⟩
  | .hbm, ⟨30, _⟩ => ⟨S8x1, .f32⟩
  | .hbm, ⟨31, _⟩ => ⟨S8x1, .f32⟩
  | .hbm, ⟨32, _⟩ => ⟨S8x1, .f32⟩
  | .hbm, ⟨33, _⟩ => ⟨S8x1, .f32⟩
  | .hbm, ⟨34, _⟩ => ⟨S8x1, .f32⟩
  | .hbm, ⟨35, _⟩ => ⟨S88x1, .f32⟩
  | .hbm, ⟨36, _⟩ => ⟨S1x1, .f32⟩
  | .hbm, ⟨37, _⟩ => ⟨S1x256, .f32⟩
  | .hbm, ⟨38, _⟩ => ⟨S1x128, .f32⟩
  | .hbm, ⟨39, _⟩ => ⟨S1x1, .f32⟩
  | .hbm, ⟨40, _⟩ => ⟨S16384x1, .f32⟩
  | .hbm, ⟨41, _⟩ => ⟨S16384, .f32⟩
  | .local _ .vmem, ⟨0, _⟩ => ⟨S8192x13, .f32⟩
  | .local _ .vmem, ⟨1, _⟩ => ⟨S8192x13, .f32⟩
  | .local _ .vmem, ⟨2, _⟩ => ⟨S8x16, .f32⟩
  | .local _ .vmem, ⟨3, _⟩ => ⟨S8x16, .f32⟩
  | .local _ .vmem, ⟨4, _⟩ => ⟨S8x8, .f32⟩
  | .local _ .vmem, ⟨5, _⟩ => ⟨S8x16, .f32⟩
  | .local _ .vmem, ⟨6, _⟩ => ⟨S8x8, .f32⟩
  | .local _ .vmem, ⟨7, _⟩ => ⟨S8x4, .f32⟩
  | .local _ .vmem, ⟨8, _⟩ => ⟨S8x1, .f32⟩
  | .local _ .vmem, ⟨9, _⟩ => ⟨S8x1, .f32⟩
  | .local _ .vmem, ⟨10, _⟩ => ⟨S2x1, .f32⟩
  | .local _ .vmem, ⟨11, _⟩ => ⟨S8x1, .f32⟩
  | .local _ .vmem, ⟨12, _⟩ => ⟨S8x1, .f32⟩
  | .local _ .vmem, ⟨13, _⟩ => ⟨S8x1, .f32⟩
  | .local _ .vmem, ⟨14, _⟩ => ⟨S8x1, .f32⟩
  | .local _ .vmem, ⟨15, _⟩ => ⟨S6x1, .f32⟩
  | .local _ .vmem, ⟨16, _⟩ => ⟨S1x1, .f32⟩
  | .local _ .vmem, ⟨17, _⟩ => ⟨S88x1, .f32⟩
  | .local _ .vmem, ⟨18, _⟩ => ⟨S75x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S128x1, .f32⟩
  | .local _ .vmem, ⟨23, _⟩ => ⟨S1x1, .f32⟩
  | .local _ .vmem, ⟨24, _⟩ => ⟨S8192x1, .f32⟩
  | .local _ .vmem, ⟨25, _⟩ => ⟨S8192x1, .f32⟩
  | _, _ => ⟨S16384x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S88x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S75x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S8192x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ReferenceIdeal.lean ====
abbrev S16384x13 : Shape := ⟨2, ![16384, 13]⟩
abbrev S1000001x16 : Shape := ⟨2, ![1000001, 16]⟩
abbrev S100001x16 : Shape := ⟨2, ![100001, 16]⟩
abbrev S8x8 : Shape := ⟨2, ![8, 8]⟩
abbrev S22x16 : Shape := ⟨2, ![22, 16]⟩
abbrev S83x8 : Shape := ⟨2, ![83, 8]⟩
abbrev S11x4 : Shape := ⟨2, ![11, 4]⟩
abbrev S1000001x1 : Shape := ⟨2, ![1000001, 1]⟩
abbrev S100001x1 : Shape := ⟨2, ![100001, 1]⟩
abbrev S2x1 : Shape := ⟨2, ![2, 1]⟩
abbrev S8x1 : Shape := ⟨2, ![8, 1]⟩
abbrev S22x1 : Shape := ⟨2, ![22, 1]⟩
abbrev S83x1 : Shape := ⟨2, ![83, 1]⟩
abbrev S11x1 : Shape := ⟨2, ![11, 1]⟩
abbrev S6x1 : Shape := ⟨2, ![6, 1]⟩
abbrev S1 : Shape := ⟨1, ![1]⟩
abbrev S664x1 : Shape := ⟨2, ![664, 1]⟩
abbrev S75x256 : Shape := ⟨2, ![75, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S16384x1 : Shape := ⟨2, ![16384, 1]⟩
abbrev S16384 : Shape := ⟨1, ![16384]⟩
abbrev S16384x6 : Shape := ⟨2, ![16384, 6]⟩
abbrev S_ : Shape := ⟨0, ![]⟩
abbrev S1x1 : Shape := ⟨2, ![1, 1]⟩
abbrev S16384x16 : Shape := ⟨2, ![16384, 16]⟩
abbrev S16384x8 : Shape := ⟨2, ![16384, 8]⟩
abbrev S16384x4 : Shape := ⟨2, ![16384, 4]⟩
abbrev S16384x75 : Shape := ⟨2, ![16384, 75]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩

abbrev nBuf : Space → Nat
  | .hbm => 421
  | .vmem => 0
  | .smem => 0
  | _ => 0

abbrev hbmTy0_0 (i : Nat) : BufTy := match i % 128 with
  | 0 => ⟨S16384x13, .f32⟩
  | 1 => ⟨S1000001x16, .f32⟩
  | 2 => ⟨S100001x16, .f32⟩
  | 3 => ⟨S8x8, .f32⟩
  | 4 => ⟨S22x16, .f32⟩
  | 5 => ⟨S83x8, .f32⟩
  | 6 => ⟨S11x4, .f32⟩
  | 7 => ⟨S1000001x1, .f32⟩
  | 8 => ⟨S100001x1, .f32⟩
  | 9 => ⟨S2x1, .f32⟩
  | 10 => ⟨S8x1, .f32⟩
  | 11 => ⟨S22x1, .f32⟩
  | 12 => ⟨S83x1, .f32⟩
  | 13 => ⟨S11x1, .f32⟩
  | 14 => ⟨S6x1, .f32⟩
  | 15 => ⟨S1, .f32⟩
  | 16 => ⟨S664x1, .f32⟩
  | 17 => ⟨S75x256, .f32⟩
  | 18 => ⟨S256, .f32⟩
  | 19 => ⟨S256x128, .f32⟩
  | 20 => ⟨S128, .f32⟩
  | 21 => ⟨S128x1, .f32⟩
  | 22 => ⟨S1, .f32⟩
  | 23 => ⟨S16384x1, .f32⟩
  | 24 => ⟨S16384, .f32⟩
  | 25 => ⟨S16384, .i32⟩
  | 26 => ⟨S16384x1, .f32⟩
  | 27 => ⟨S16384, .f32⟩
  | 28 => ⟨S16384, .i32⟩
  | 29 => ⟨S16384x1, .f32⟩
  | 30 => ⟨S16384, .f32⟩
  | 31 => ⟨S16384, .i32⟩
  | 32 => ⟨S16384x1, .f32⟩
  | 33 => ⟨S16384x1, .f32⟩
  | 34 => ⟨S16384, .f32⟩
  | 35 => ⟨S16384, .i32⟩
  | 36 => ⟨S16384x1, .f32⟩
  | 37 => ⟨S16384, .f32⟩
  | 38 => ⟨S16384, .i32⟩
  | 39 => ⟨S16384x1, .f32⟩
  | 40 => ⟨S16384, .f32⟩
  | 41 => ⟨S16384, .i32⟩
  | 42 => ⟨S16384x1, .f32⟩
  | 43 => ⟨S16384, .f32⟩
  | 44 => ⟨S16384, .i32⟩
  | 45 => ⟨S16384x6, .f32⟩
  | 46 => ⟨S_, .i32⟩
  | 47 => ⟨S16384, .i32⟩
  | 48 => ⟨S16384, .i1⟩
  | 49 => ⟨S_, .i32⟩
  | 50 => ⟨S16384, .i32⟩
  | 51 => ⟨S16384, .i32⟩
  | 52 => ⟨S16384, .i32⟩
  | 53 => ⟨S16384x1, .i32⟩
  | 54 => ⟨S1, .i32⟩
  | 55 => ⟨S_, .i32⟩
  | 56 => ⟨S16384x1, .i32⟩
  | 57 => ⟨S16384x1, .i1⟩
  | 58 => ⟨S1x1, .i32⟩
  | 59 => ⟨S16384x1, .i32⟩
  | 60 => ⟨S16384x1, .i1⟩
  | 61 => ⟨S16384x1, .i1⟩
  | 62 => ⟨S_, .i1⟩
  | 63 => ⟨S16384, .i1⟩
  | 64 => ⟨S16384x16, .f32⟩
  | 65 => ⟨S16384x16, .i1⟩
  | 66 => ⟨S_, .f32⟩
  | 67 => ⟨S16384x16, .f32⟩
  | 68 => ⟨S16384x16, .f32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S16384x1, .i32⟩
  | 77 => ⟨S1, .i32⟩
  | 78 => ⟨S_, .i32⟩
  | 79 => ⟨S16384x1, .i32⟩
  | 80 => ⟨S16384x1, .i1⟩
  | 81 => ⟨S1x1, .i32⟩
  | 82 => ⟨S16384x1, .i32⟩
  | 83 => ⟨S16384x1, .i1⟩
  | 84 => ⟨S16384x1, .i1⟩
  | 85 => ⟨S_, .i1⟩
  | 86 => ⟨S16384, .i1⟩
  | 87 => ⟨S16384x16, .f32⟩
  | 88 => ⟨S16384x16, .i1⟩
  | 89 => ⟨S_, .f32⟩
  | 90 => ⟨S16384x16, .f32⟩
  | 91 => ⟨S16384x16, .f32⟩
  | 92 => ⟨S_, .i32⟩
  | 93 => ⟨S16384, .i32⟩
  | 94 => ⟨S16384, .i1⟩
  | 95 => ⟨S_, .i32⟩
  | 96 => ⟨S16384, .i32⟩
  | 97 => ⟨S16384, .i32⟩
  | 98 => ⟨S16384, .i32⟩
  | 99 => ⟨S16384x1, .i32⟩
  | 100 => ⟨S1, .i32⟩
  | 101 => ⟨S_, .i32⟩
  | 102 => ⟨S16384x1, .i32⟩
  | 103 => ⟨S16384x1, .i1⟩
  | 104 => ⟨S1x1, .i32⟩
  | 105 => ⟨S16384x1, .i32⟩
  | 106 => ⟨S16384x1, .i1⟩
  | 107 => ⟨S16384x1, .i1⟩
  | 108 => ⟨S_, .i1⟩
  | 109 => ⟨S16384, .i1⟩
  | 110 => ⟨S16384x8, .f32⟩
  | 111 => ⟨S16384x8, .i1⟩
  | 112 => ⟨S_, .f32⟩
  | 113 => ⟨S16384x8, .f32⟩
  | 114 => ⟨S16384x8, .f32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S1, .i32⟩
  | 124 => ⟨S_, .i32⟩
  | 125 => ⟨S16384x1, .i32⟩
  | 126 => ⟨S16384x1, .i1⟩
  | 127 => ⟨S1x1, .i32⟩
  | _ => ⟨S16384x13, .f32⟩

abbrev hbmTy0_1 (i : Nat) : BufTy := match i % 128 with
  | 0 => ⟨S16384x1, .i32⟩
  | 1 => ⟨S16384x1, .i1⟩
  | 2 => ⟨S16384x1, .i1⟩
  | 3 => ⟨S_, .i1⟩
  | 4 => ⟨S16384, .i1⟩
  | 5 => ⟨S16384x16, .f32⟩
  | 6 => ⟨S16384x16, .i1⟩
  | 7 => ⟨S_, .f32⟩
  | 8 => ⟨S16384x16, .f32⟩
  | 9 => ⟨S16384x16, .f32⟩
  | 10 => ⟨S_, .i32⟩
  | 11 => ⟨S16384, .i32⟩
  | 12 => ⟨S16384, .i1⟩
  | 13 => ⟨S_, .i32⟩
  | 14 => ⟨S16384, .i32⟩
  | 15 => ⟨S16384, .i32⟩
  | 16 => ⟨S16384, .i32⟩
  | 17 => ⟨S16384x1, .i32⟩
  | 18 => ⟨S1, .i32⟩
  | 19 => ⟨S_, .i32⟩
  | 20 => ⟨S16384x1, .i32⟩
  | 21 => ⟨S16384x1, .i1⟩
  | 22 => ⟨S1x1, .i32⟩
  | 23 => ⟨S16384x1, .i32⟩
  | 24 => ⟨S16384x1, .i1⟩
  | 25 => ⟨S16384x1, .i1⟩
  | 26 => ⟨S_, .i1⟩
  | 27 => ⟨S16384, .i1⟩
  | 28 => ⟨S16384x8, .f32⟩
  | 29 => ⟨S16384x8, .i1⟩
  | 30 => ⟨S_, .f32⟩
  | 31 => ⟨S16384x8, .f32⟩
  | 32 => ⟨S16384x8, .f32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S1, .i32⟩
  | 42 => ⟨S_, .i32⟩
  | 43 => ⟨S16384x1, .i32⟩
  | 44 => ⟨S16384x1, .i1⟩
  | 45 => ⟨S1x1, .i32⟩
  | 46 => ⟨S16384x1, .i32⟩
  | 47 => ⟨S16384x1, .i1⟩
  | 48 => ⟨S16384x1, .i1⟩
  | 49 => ⟨S_, .i1⟩
  | 50 => ⟨S16384, .i1⟩
  | 51 => ⟨S16384x4, .f32⟩
  | 52 => ⟨S16384x4, .i1⟩
  | 53 => ⟨S_, .f32⟩
  | 54 => ⟨S16384x4, .f32⟩
  | 55 => ⟨S16384x4, .f32⟩
  | 56 => ⟨S_, .i32⟩
  | 57 => ⟨S16384, .i32⟩
  | 58 => ⟨S16384, .i32⟩
  | 59 => ⟨S16384, .i32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S1, .i32⟩
  | 69 => ⟨S_, .i32⟩
  | 70 => ⟨S16384x1, .i32⟩
  | 71 => ⟨S16384x1, .i1⟩
  | 72 => ⟨S1x1, .i32⟩
  | 73 => ⟨S16384x1, .i32⟩
  | 74 => ⟨S16384x1, .i1⟩
  | 75 => ⟨S16384x1, .i1⟩
  | 76 => ⟨S_, .i1⟩
  | 77 => ⟨S16384, .i1⟩
  | 78 => ⟨S16384x1, .f32⟩
  | 79 => ⟨S16384x1, .i1⟩
  | 80 => ⟨S_, .f32⟩
  | 81 => ⟨S16384x1, .f32⟩
  | 82 => ⟨S16384x1, .f32⟩
  | 83 => ⟨S16384, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S1, .i32⟩
  | 93 => ⟨S_, .i32⟩
  | 94 => ⟨S16384x1, .i32⟩
  | 95 => ⟨S16384x1, .i1⟩
  | 96 => ⟨S1x1, .i32⟩
  | 97 => ⟨S16384x1, .i32⟩
  | 98 => ⟨S16384x1, .i1⟩
  | 99 => ⟨S16384x1, .i1⟩
  | 100 => ⟨S_, .i1⟩
  | 101 => ⟨S16384, .i1⟩
  | 102 => ⟨S16384x1, .f32⟩
  | 103 => ⟨S16384x1, .i1⟩
  | 104 => ⟨S_, .f32⟩
  | 105 => ⟨S16384x1, .f32⟩
  | 106 => ⟨S16384x1, .f32⟩
  | 107 => ⟨S16384, .f32⟩
  | 108 => ⟨S16384, .f32⟩
  | 109 => ⟨S_, .i32⟩
  | 110 => ⟨S16384, .i32⟩
  | 111 => ⟨S16384, .i1⟩
  | 112 => ⟨S_, .i32⟩
  | 113 => ⟨S16384, .i32⟩
  | 114 => ⟨S16384, .i32⟩
  | 115 => ⟨S16384, .i32⟩
  | 116 => ⟨S16384x1, .i32⟩
  | 117 => ⟨S1, .i32⟩
  | 118 => ⟨S_, .i32⟩
  | 119 => ⟨S16384x1, .i32⟩
  | 120 => ⟨S16384x1, .i1⟩
  | 121 => ⟨S1x1, .i32⟩
  | 122 => ⟨S16384x1, .i32⟩
  | 123 => ⟨S16384x1, .i1⟩
  | 124 => ⟨S16384x1, .i1⟩
  | 125 => ⟨S_, .i1⟩
  | 126 => ⟨S16384, .i1⟩
  | 127 => ⟨S16384x1, .f32⟩
  | _ => ⟨S16384x13, .f32⟩

abbrev hbmTy0_2 (i : Nat) : BufTy := match i % 128 with
  | 0 => ⟨S16384x1, .i1⟩
  | 1 => ⟨S_, .f32⟩
  | 2 => ⟨S16384x1, .f32⟩
  | 3 => ⟨S16384x1, .f32⟩
  | 4 => ⟨S16384, .f32⟩
  | 5 => ⟨S16384, .f32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S1, .i32⟩
  | 15 => ⟨S_, .i32⟩
  | 16 => ⟨S16384x1, .i32⟩
  | 17 => ⟨S16384x1, .i1⟩
  | 18 => ⟨S1x1, .i32⟩
  | 19 => ⟨S16384x1, .i32⟩
  | 20 => ⟨S16384x1, .i1⟩
  | 21 => ⟨S16384x1, .i1⟩
  | 22 => ⟨S_, .i1⟩
  | 23 => ⟨S16384, .i1⟩
  | 24 => ⟨S16384x1, .f32⟩
  | 25 => ⟨S16384x1, .i1⟩
  | 26 => ⟨S_, .f32⟩
  | 27 => ⟨S16384x1, .f32⟩
  | 28 => ⟨S16384x1, .f32⟩
  | 29 => ⟨S16384, .f32⟩
  | 30 => ⟨S16384, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S1, .i32⟩
  | 40 => ⟨S_, .i32⟩
  | 41 => ⟨S16384x1, .i32⟩
  | 42 => ⟨S16384x1, .i1⟩
  | 43 => ⟨S1x1, .i32⟩
  | 44 => ⟨S16384x1, .i32⟩
  | 45 => ⟨S16384x1, .i1⟩
  | 46 => ⟨S16384x1, .i1⟩
  | 47 => ⟨S_, .i1⟩
  | 48 => ⟨S16384, .i1⟩
  | 49 => ⟨S16384x1, .f32⟩
  | 50 => ⟨S16384x1, .i1⟩
  | 51 => ⟨S_, .f32⟩
  | 52 => ⟨S16384x1, .f32⟩
  | 53 => ⟨S16384x1, .f32⟩
  | 54 => ⟨S16384, .f32⟩
  | 55 => ⟨S16384, .f32⟩
  | 56 => ⟨S_, .i32⟩
  | 57 => ⟨S16384, .i32⟩
  | 58 => ⟨S16384, .i1⟩
  | 59 => ⟨S_, .i32⟩
  | 60 => ⟨S16384, .i32⟩
  | 61 => ⟨S16384, .i32⟩
  | 62 => ⟨S16384, .i32⟩
  | 63 => ⟨S16384x1, .i32⟩
  | 64 => ⟨S1, .i32⟩
  | 65 => ⟨S_, .i32⟩
  | 66 => ⟨S16384x1, .i32⟩
  | 67 => ⟨S16384x1, .i1⟩
  | 68 => ⟨S1x1, .i32⟩
  | 69 => ⟨S16384x1, .i32⟩
  | 70 => ⟨S16384x1, .i1⟩
  | 71 => ⟨S16384x1, .i1⟩
  | 72 => ⟨S_, .i1⟩
  | 73 => ⟨S16384, .i1⟩
  | 74 => ⟨S16384x1, .f32⟩
  | 75 => ⟨S16384x1, .i1⟩
  | 76 => ⟨S_, .f32⟩
  | 77 => ⟨S16384x1, .f32⟩
  | 78 => ⟨S16384x1, .f32⟩
  | 79 => ⟨S16384, .f32⟩
  | 80 => ⟨S16384, .f32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x1, .f32⟩
  | 100 => ⟨S16384x1, .i1⟩
  | 101 => ⟨S_, .f32⟩
  | 102 => ⟨S16384x1, .f32⟩
  | 103 => ⟨S16384x1, .f32⟩
  | 104 => ⟨S16384, .f32⟩
  | 105 => ⟨S16384, .f32⟩
  | 106 => ⟨S16384x1, .f32⟩
  | 107 => ⟨S1x1, .f32⟩
  | 108 => ⟨S16384x1, .f32⟩
  | 109 => ⟨S16384x1, .f32⟩
  | 110 => ⟨S16384, .f32⟩
  | 111 => ⟨S16384, .f32⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S1, .i32⟩
  | 121 => ⟨S_, .i32⟩
  | 122 => ⟨S16384x1, .i32⟩
  | 123 => ⟨S16384x1, .i1⟩
  | 124 => ⟨S1x1, .i32⟩
  | 125 => ⟨S16384x1, .i32⟩
  | 126 => ⟨S16384x1, .i1⟩
  | 127 => ⟨S16384x1, .i1⟩
  | _ => ⟨S16384x13, .f32⟩

abbrev hbmTy0_3 (i : Nat) : BufTy := match i % 128 with
  | 0 => ⟨S_, .i1⟩
  | 1 => ⟨S16384, .i1⟩
  | 2 => ⟨S16384x1, .f32⟩
  | 3 => ⟨S16384x1, .i1⟩
  | 4 => ⟨S_, .f32⟩
  | 5 => ⟨S16384x1, .f32⟩
  | 6 => ⟨S16384x1, .f32⟩
  | 7 => ⟨S16384, .f32⟩
  | 8 => ⟨S16384, .f32⟩
  | 9 => ⟨S16384x1, .f32⟩
  | 10 => ⟨S16384x75, .f32⟩
  | 11 => ⟨S16384x256, .f32⟩
  | 12 => ⟨S1x256, .f32⟩
  | 13 => ⟨S16384x256, .f32⟩
  | 14 => ⟨S16384x256, .f32⟩
  | 15 => ⟨S_, .f32⟩
  | 16 => ⟨S16384x256, .f32⟩
  | 17 => ⟨S16384x256, .f32⟩
  | 18 => ⟨S16384x128, .f32⟩
  | 19 => ⟨S1x128, .f32⟩
  | 20 => ⟨S16384x128, .f32⟩
  | 21 => ⟨S16384x128, .f32⟩
  | 22 => ⟨S_, .f32⟩
  | 23 => ⟨S16384x128, .f32⟩
  | 24 => ⟨S16384x128, .f32⟩
  | 25 => ⟨S16384x1, .f32⟩
  | 26 => ⟨S1x1, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1, .f32⟩
  | 36 => ⟨S16384, .f32⟩
  | _ => ⟨S16384x13, .f32⟩

abbrev hbmTy (i : Nat) : BufTy := match i / 128 with
  | 0 => hbmTy0_0 i
  | 1 => hbmTy0_1 i
  | 2 => hbmTy0_2 i
  | 3 => hbmTy0_3 i
  | _ => ⟨S16384x13, .f32⟩

abbrev bufTy : (tb : Table) → Fin (tcTables nBuf tb) → BufTy
  | .hbm, ⟨i, _⟩ => hbmTy i
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_call0_cst : Ref sig .tc := ⟨.hbm, 66, rfl⟩
abbrev main_call0_v15 : Ref sig .tc := ⟨.hbm, 67, rfl⟩
abbrev main_v23 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v24 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v25 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_c_1 : Ref sig .tc := ⟨.hbm, 123, rfl⟩
abbrev main_call3_c_2 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_3 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_cst : Ref sig .tc := ⟨.hbm, 135, rfl⟩
abbrev main_call3_v15 : Ref sig .tc := ⟨.hbm, 136, rfl⟩
abbrev main_v26 : Ref sig .tc := ⟨.hbm, 137, rfl⟩
abbrev main_call4_c : Ref sig .tc := ⟨.hbm, 138, rfl⟩
abbrev main_call4_v0 : Ref sig .tc := ⟨.hbm, 139, rfl⟩
abbrev main_call4_v1 : Ref sig .tc := ⟨.hbm, 140, rfl⟩
abbrev main_call4_c_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_v5 : Ref sig .tc := ⟨.hbm, 145, rfl⟩
abbrev main_call4_c_1 : Ref sig .tc := ⟨.hbm, 146, rfl⟩
abbrev main_call4_c_2 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_c_3 : Ref sig .tc := ⟨.hbm, 154, rfl⟩
abbrev main_call4_v12 : Ref sig .tc := ⟨.hbm, 155, rfl⟩
abbrev main_call4_v13 : Ref sig .tc := ⟨.hbm, 156, rfl⟩
abbrev main_call4_v14 : Ref sig .tc := ⟨.hbm, 157, rfl⟩
abbrev main_call4_cst : Ref sig .tc := ⟨.hbm, 158, rfl⟩
abbrev main_call4_v15 : Ref sig .tc := ⟨.hbm, 159, rfl⟩
abbrev main_v27 : Ref sig .tc := ⟨.hbm, 160, rfl⟩
abbrev main_call5_c : Ref sig .tc := ⟨.hbm, 161, rfl⟩
abbrev main_call5_v0 : Ref sig .tc := ⟨.hbm, 162, rfl⟩
abbrev main_call5_v1 : Ref sig .tc := ⟨.hbm, 163, rfl⟩
abbrev main_call5_c_0 : Ref sig .tc := ⟨.hbm, 164, rfl⟩
abbrev main_call5_v2 : Ref sig .tc := ⟨.hbm, 165, rfl⟩
abbrev main_call5_v3 : Ref sig .tc := ⟨.hbm, 166, rfl⟩
abbrev main_call5_v4 : Ref sig .tc := ⟨.hbm, 167, rfl⟩
abbrev main_call5_v5 : Ref sig .tc := ⟨.hbm, 168, rfl⟩
abbrev main_call5_c_1 : Ref sig .tc := ⟨.hbm, 169, rfl⟩
abbrev main_call5_c_2 : Ref sig .tc := ⟨.hbm, 170, rfl⟩
abbrev main_call5_v6 : Ref sig .tc := ⟨.hbm, 171, rfl⟩
abbrev main_call5_v7 : Ref sig .tc := ⟨.hbm, 172, rfl⟩
abbrev main_call5_v8 : Ref sig .tc := ⟨.hbm, 173, rfl⟩
abbrev main_call5_v9 : Ref sig .tc := ⟨.hbm, 174, rfl⟩
abbrev main_call5_v10 : Ref sig .tc := ⟨.hbm, 175, rfl⟩
abbrev main_call5_v11 : Ref sig .tc := ⟨.hbm, 176, rfl⟩
abbrev main_call5_c_3 : Ref sig .tc := ⟨.hbm, 177, rfl⟩
abbrev main_call5_v12 : Ref sig .tc := ⟨.hbm, 178, rfl⟩
abbrev main_call5_v13 : Ref sig .tc := ⟨.hbm, 179, rfl⟩
abbrev main_call5_v14 : Ref sig .tc := ⟨.hbm, 180, rfl⟩
abbrev main_call5_cst : Ref sig .tc := ⟨.hbm, 181, rfl⟩
abbrev main_call5_v15 : Ref sig .tc := ⟨.hbm, 182, rfl⟩
abbrev main_v28 : Ref sig .tc := ⟨.hbm, 183, rfl⟩
abbrev main_c : Ref sig .tc := ⟨.hbm, 184, rfl⟩
abbrev main_v29 : Ref sig .tc := ⟨.hbm, 185, rfl⟩
abbrev main_v30 : Ref sig .tc := ⟨.hbm, 186, rfl⟩
abbrev main_v31 : Ref sig .tc := ⟨.hbm, 187, rfl⟩
abbrev main_call6_c : Ref sig .tc := ⟨.hbm, 188, rfl⟩
abbrev main_call6_v0 : Ref sig .tc := ⟨.hbm, 189, rfl⟩
abbrev main_call6_v1 : Ref sig .tc := ⟨.hbm, 190, rfl⟩
abbrev main_call6_c_0 : Ref sig .tc := ⟨.hbm, 191, rfl⟩
abbrev main_call6_v2 : Ref sig .tc := ⟨.hbm, 192, rfl⟩
abbrev main_call6_v3 : Ref sig .tc := ⟨.hbm, 193, rfl⟩
abbrev main_call6_v4 : Ref sig .tc := ⟨.hbm, 194, rfl⟩
abbrev main_call6_v5 : Ref sig .tc := ⟨.hbm, 195, rfl⟩
abbrev main_call6_c_1 : Ref sig .tc := ⟨.hbm, 196, rfl⟩
abbrev main_call6_c_2 : Ref sig .tc := ⟨.hbm, 197, rfl⟩
abbrev main_call6_v6 : Ref sig .tc := ⟨.hbm, 198, rfl⟩
abbrev main_call6_v7 : Ref sig .tc := ⟨.hbm, 199, rfl⟩
abbrev main_call6_v8 : Ref sig .tc := ⟨.hbm, 200, rfl⟩
abbrev main_call6_v9 : Ref sig .tc := ⟨.hbm, 201, rfl⟩
abbrev main_call6_v10 : Ref sig .tc := ⟨.hbm, 202, rfl⟩
abbrev main_call6_v11 : Ref sig .tc := ⟨.hbm, 203, rfl⟩
abbrev main_call6_c_3 : Ref sig .tc := ⟨.hbm, 204, rfl⟩
abbrev main_call6_v12 : Ref sig .tc := ⟨.hbm, 205, rfl⟩
abbrev main_call6_v13 : Ref sig .tc := ⟨.hbm, 206, rfl⟩
abbrev main_call6_v14 : Ref sig .tc := ⟨.hbm, 207, rfl⟩
abbrev main_call6_cst : Ref sig .tc := ⟨.hbm, 208, rfl⟩
abbrev main_call6_v15 : Ref sig .tc := ⟨.hbm, 209, rfl⟩
abbrev main_v32 : Ref sig .tc := ⟨.hbm, 210, rfl⟩
abbrev main_v33 : Ref sig .tc := ⟨.hbm, 211, rfl⟩
abbrev main_call7_c : Ref sig .tc := ⟨.hbm, 212, rfl⟩
abbrev main_call7_v0 : Ref sig .tc := ⟨.hbm, 213, rfl⟩
abbrev main_call7_v1 : Ref sig .tc := ⟨.hbm, 214, rfl⟩
abbrev main_call7_c_0 : Ref sig .tc := ⟨.hbm, 215, rfl⟩
abbrev main_call7_v2 : Ref sig .tc := ⟨.hbm, 216, rfl⟩
abbrev main_call7_v3 : Ref sig .tc := ⟨.hbm, 217, rfl⟩
abbrev main_call7_v4 : Ref sig .tc := ⟨.hbm, 218, rfl⟩
abbrev main_call7_v5 : Ref sig .tc := ⟨.hbm, 219, rfl⟩
abbrev main_call7_c_1 : Ref sig .tc := ⟨.hbm, 220, rfl⟩
abbrev main_call7_c_2 : Ref sig .tc := ⟨.hbm, 221, rfl⟩
abbrev main_call7_v6 : Ref sig .tc := ⟨.hbm, 222, rfl⟩
abbrev main_call7_v7 : Ref sig .tc := ⟨.hbm, 223, rfl⟩
abbrev main_call7_v8 : Ref sig .tc := ⟨.hbm, 224, rfl⟩
abbrev main_call7_v9 : Ref sig .tc := ⟨.hbm, 225, rfl⟩
abbrev main_call7_v10 : Ref sig .tc := ⟨.hbm, 226, rfl⟩
abbrev main_call7_v11 : Ref sig .tc := ⟨.hbm, 227, rfl⟩
abbrev main_call7_c_3 : Ref sig .tc := ⟨.hbm, 228, rfl⟩
abbrev main_call7_v12 : Ref sig .tc := ⟨.hbm, 229, rfl⟩
abbrev main_call7_v13 : Ref sig .tc := ⟨.hbm, 230, rfl⟩
abbrev main_call7_v14 : Ref sig .tc := ⟨.hbm, 231, rfl⟩
abbrev main_call7_cst : Ref sig .tc := ⟨.hbm, 232, rfl⟩
abbrev main_call7_v15 : Ref sig .tc := ⟨.hbm, 233, rfl⟩
abbrev main_v34 : Ref sig .tc := ⟨.hbm, 234, rfl⟩
abbrev main_v35 : Ref sig .tc := ⟨.hbm, 235, rfl⟩
abbrev main_v36 : Ref sig .tc := ⟨.hbm, 236, rfl⟩
abbrev main_call8_c : Ref sig .tc := ⟨.hbm, 237, rfl⟩
abbrev main_call8_v0 : Ref sig .tc := ⟨.hbm, 238, rfl⟩
abbrev main_call8_v1 : Ref sig .tc := ⟨.hbm, 239, rfl⟩
abbrev main_call8_c_0 : Ref sig .tc := ⟨.hbm, 240, rfl⟩
abbrev main_call8_v2 : Ref sig .tc := ⟨.hbm, 241, rfl⟩
abbrev main_call8_v3 : Ref sig .tc := ⟨.hbm, 242, rfl⟩
abbrev main_call8_v4 : Ref sig .tc := ⟨.hbm, 243, rfl⟩
abbrev main_call8_v5 : Ref sig .tc := ⟨.hbm, 244, rfl⟩
abbrev main_call8_c_1 : Ref sig .tc := ⟨.hbm, 245, rfl⟩
abbrev main_call8_c_2 : Ref sig .tc := ⟨.hbm, 246, rfl⟩
abbrev main_call8_v6 : Ref sig .tc := ⟨.hbm, 247, rfl⟩
abbrev main_call8_v7 : Ref sig .tc := ⟨.hbm, 248, rfl⟩
abbrev main_call8_v8 : Ref sig .tc := ⟨.hbm, 249, rfl⟩
abbrev main_call8_v9 : Ref sig .tc := ⟨.hbm, 250, rfl⟩
abbrev main_call8_v10 : Ref sig .tc := ⟨.hbm, 251, rfl⟩
abbrev main_call8_v11 : Ref sig .tc := ⟨.hbm, 252, rfl⟩
abbrev main_call8_c_3 : Ref sig .tc := ⟨.hbm, 253, rfl⟩
abbrev main_call8_v12 : Ref sig .tc := ⟨.hbm, 254, rfl⟩
abbrev main_call8_v13 : Ref sig .tc := ⟨.hbm, 255, rfl⟩
abbrev main_call8_v14 : Ref sig .tc := ⟨.hbm, 256, rfl⟩
abbrev main_call8_cst : Ref sig .tc := ⟨.hbm, 257, rfl⟩
abbrev main_call8_v15 : Ref sig .tc := ⟨.hbm, 258, rfl⟩
abbrev main_v37 : Ref sig .tc := ⟨.hbm, 259, rfl⟩
abbrev main_v38 : Ref sig .tc := ⟨.hbm, 260, rfl⟩
abbrev main_v39 : Ref sig .tc := ⟨.hbm, 261, rfl⟩
abbrev main_call9_c : Ref sig .tc := ⟨.hbm, 262, rfl⟩
abbrev main_call9_v0 : Ref sig .tc := ⟨.hbm, 263, rfl⟩
abbrev main_call9_v1 : Ref sig .tc := ⟨.hbm, 264, rfl⟩
abbrev main_call9_c_0 : Ref sig .tc := ⟨.hbm, 265, rfl⟩
abbrev main_call9_v2 : Ref sig .tc := ⟨.hbm, 266, rfl⟩
abbrev main_call9_v3 : Ref sig .tc := ⟨.hbm, 267, rfl⟩
abbrev main_call9_v4 : Ref sig .tc := ⟨.hbm, 268, rfl⟩
abbrev main_call9_v5 : Ref sig .tc := ⟨.hbm, 269, rfl⟩
abbrev main_call9_c_1 : Ref sig .tc := ⟨.hbm, 270, rfl⟩
abbrev main_call9_c_2 : Ref sig .tc := ⟨.hbm, 271, rfl⟩
abbrev main_call9_v6 : Ref sig .tc := ⟨.hbm, 272, rfl⟩
abbrev main_call9_v7 : Ref sig .tc := ⟨.hbm, 273, rfl⟩
abbrev main_call9_v8 : Ref sig .tc := ⟨.hbm, 274, rfl⟩
abbrev main_call9_v9 : Ref sig .tc := ⟨.hbm, 275, rfl⟩
abbrev main_call9_v10 : Ref sig .tc := ⟨.hbm, 276, rfl⟩
abbrev main_call9_v11 : Ref sig .tc := ⟨.hbm, 277, rfl⟩
abbrev main_call9_c_3 : Ref sig .tc := ⟨.hbm, 278, rfl⟩
abbrev main_call9_v12 : Ref sig .tc := ⟨.hbm, 279, rfl⟩
abbrev main_call9_v13 : Ref sig .tc := ⟨.hbm, 280, rfl⟩
abbrev main_call9_v14 : Ref sig .tc := ⟨.hbm, 281, rfl⟩
abbrev main_call9_cst : Ref sig .tc := ⟨.hbm, 282, rfl⟩
abbrev main_call9_v15 : Ref sig .tc := ⟨.hbm, 283, rfl⟩
abbrev main_v40 : Ref sig .tc := ⟨.hbm, 284, rfl⟩
abbrev main_v41 : Ref sig .tc := ⟨.hbm, 285, rfl⟩
abbrev main_v42 : Ref sig .tc := ⟨.hbm, 286, rfl⟩
abbrev main_call10_c : Ref sig .tc := ⟨.hbm, 287, rfl⟩
abbrev main_call10_v0 : Ref sig .tc := ⟨.hbm, 288, rfl⟩
abbrev main_call10_v1 : Ref sig .tc := ⟨.hbm, 289, rfl⟩
abbrev main_call10_c_0 : Ref sig .tc := ⟨.hbm, 290, rfl⟩
abbrev main_call10_v2 : Ref sig .tc := ⟨.hbm, 291, rfl⟩
abbrev main_call10_v3 : Ref sig .tc := ⟨.hbm, 292, rfl⟩
abbrev main_call10_v4 : Ref sig .tc := ⟨.hbm, 293, rfl⟩
abbrev main_call10_v5 : Ref sig .tc := ⟨.hbm, 294, rfl⟩
abbrev main_call10_c_1 : Ref sig .tc := ⟨.hbm, 295, rfl⟩
abbrev main_call10_c_2 : Ref sig .tc := ⟨.hbm, 296, rfl⟩
abbrev main_call10_v6 : Ref sig .tc := ⟨.hbm, 297, rfl⟩
abbrev main_call10_v7 : Ref sig .tc := ⟨.hbm, 298, rfl⟩
abbrev main_call10_v8 : Ref sig .tc := ⟨.hbm, 299, rfl⟩
abbrev main_call10_v9 : Ref sig .tc := ⟨.hbm, 300, rfl⟩
abbrev main_call10_v10 : Ref sig .tc := ⟨.hbm, 301, rfl⟩
abbrev main_call10_v11 : Ref sig .tc := ⟨.hbm, 302, rfl⟩
abbrev main_call10_c_3 : Ref sig .tc := ⟨.hbm, 303, rfl⟩
abbrev main_call10_v12 : Ref sig .tc := ⟨.hbm, 304, rfl⟩
abbrev main_call10_v13 : Ref sig .tc := ⟨.hbm, 305, rfl⟩
abbrev main_call10_v14 : Ref sig .tc := ⟨.hbm, 306, rfl⟩
abbrev main_call10_cst : Ref sig .tc := ⟨.hbm, 307, rfl⟩
abbrev main_call10_v15 : Ref sig .tc := ⟨.hbm, 308, rfl⟩
abbrev main_v43 : Ref sig .tc := ⟨.hbm, 309, rfl⟩
abbrev main_v44 : Ref sig .tc := ⟨.hbm, 310, rfl⟩
abbrev main_v45 : Ref sig .tc := ⟨.hbm, 311, rfl⟩
abbrev main_call11_c : Ref sig .tc := ⟨.hbm, 312, rfl⟩
abbrev main_call11_v0 : Ref sig .tc := ⟨.hbm, 313, rfl⟩
abbrev main_call11_v1 : Ref sig .tc := ⟨.hbm, 314, rfl⟩
abbrev main_call11_c_0 : Ref sig .tc := ⟨.hbm, 315, rfl⟩
abbrev main_call11_v2 : Ref sig .tc := ⟨.hbm, 316, rfl⟩
abbrev main_call11_v3 : Ref sig .tc := ⟨.hbm, 317, rfl⟩
abbrev main_call11_v4 : Ref sig .tc := ⟨.hbm, 318, rfl⟩
abbrev main_call11_v5 : Ref sig .tc := ⟨.hbm, 319, rfl⟩
abbrev main_call11_c_1 : Ref sig .tc := ⟨.hbm, 320, rfl⟩
abbrev main_call11_c_2 : Ref sig .tc := ⟨.hbm, 321, rfl⟩
abbrev main_call11_v6 : Ref sig .tc := ⟨.hbm, 322, rfl⟩
abbrev main_call11_v7 : Ref sig .tc := ⟨.hbm, 323, rfl⟩
abbrev main_call11_v8 : Ref sig .tc := ⟨.hbm, 324, rfl⟩
abbrev main_call11_v9 : Ref sig .tc := ⟨.hbm, 325, rfl⟩
abbrev main_call11_v10 : Ref sig .tc := ⟨.hbm, 326, rfl⟩
abbrev main_call11_v11 : Ref sig .tc := ⟨.hbm, 327, rfl⟩
abbrev main_call11_c_3 : Ref sig .tc := ⟨.hbm, 328, rfl⟩
abbrev main_call11_v12 : Ref sig .tc := ⟨.hbm, 329, rfl⟩
abbrev main_call11_v13 : Ref sig .tc := ⟨.hbm, 330, rfl⟩
abbrev main_call11_v14 : Ref sig .tc := ⟨.hbm, 331, rfl⟩
abbrev main_call11_cst : Ref sig .tc := ⟨.hbm, 332, rfl⟩
abbrev main_call11_v15 : Ref sig .tc := ⟨.hbm, 333, rfl⟩
abbrev main_v46 : Ref sig .tc := ⟨.hbm, 334, rfl⟩
abbrev main_v47 : Ref sig .tc := ⟨.hbm, 335, rfl⟩
abbrev main_v48 : Ref sig .tc := ⟨.hbm, 336, rfl⟩
abbrev main_call12_c : Ref sig .tc := ⟨.hbm, 337, rfl⟩
abbrev main_call12_v0 : Ref sig .tc := ⟨.hbm, 338, rfl⟩
abbrev main_call12_v1 : Ref sig .tc := ⟨.hbm, 339, rfl⟩
abbrev main_call12_c_0 : Ref sig .tc := ⟨.hbm, 340, rfl⟩
abbrev main_call12_v2 : Ref sig .tc := ⟨.hbm, 341, rfl⟩
abbrev main_call12_v3 : Ref sig .tc := ⟨.hbm, 342, rfl⟩
abbrev main_call12_v4 : Ref sig .tc := ⟨.hbm, 343, rfl⟩
abbrev main_call12_v5 : Ref sig .tc := ⟨.hbm, 344, rfl⟩
abbrev main_call12_c_1 : Ref sig .tc := ⟨.hbm, 345, rfl⟩
abbrev main_call12_c_2 : Ref sig .tc := ⟨.hbm, 346, rfl⟩
abbrev main_call12_v6 : Ref sig .tc := ⟨.hbm, 347, rfl⟩
abbrev main_call12_v7 : Ref sig .tc := ⟨.hbm, 348, rfl⟩
abbrev main_call12_v8 : Ref sig .tc := ⟨.hbm, 349, rfl⟩
abbrev main_call12_v9 : Ref sig .tc := ⟨.hbm, 350, rfl⟩
abbrev main_call12_v10 : Ref sig .tc := ⟨.hbm, 351, rfl⟩
abbrev main_call12_v11 : Ref sig .tc := ⟨.hbm, 352, rfl⟩
abbrev main_call12_c_3 : Ref sig .tc := ⟨.hbm, 353, rfl⟩
abbrev main_call12_v12 : Ref sig .tc := ⟨.hbm, 354, rfl⟩
abbrev main_call12_v13 : Ref sig .tc := ⟨.hbm, 355, rfl⟩
abbrev main_call12_v14 : Ref sig .tc := ⟨.hbm, 356, rfl⟩
abbrev main_call12_cst : Ref sig .tc := ⟨.hbm, 357, rfl⟩
abbrev main_call12_v15 : Ref sig .tc := ⟨.hbm, 358, rfl⟩
abbrev main_v49 : Ref sig .tc := ⟨.hbm, 359, rfl⟩
abbrev main_v50 : Ref sig .tc := ⟨.hbm, 360, rfl⟩
abbrev main_v51 : Ref sig .tc := ⟨.hbm, 361, rfl⟩
abbrev main_v52 : Ref sig .tc := ⟨.hbm, 362, rfl⟩
abbrev main_v53 : Ref sig .tc := ⟨.hbm, 363, rfl⟩
abbrev main_v54 : Ref sig .tc := ⟨.hbm, 364, rfl⟩
abbrev main_v55 : Ref sig .tc := ⟨.hbm, 365, rfl⟩
abbrev main_v56 : Ref sig .tc := ⟨.hbm, 366, rfl⟩
abbrev main_v57 : Ref sig .tc := ⟨.hbm, 367, rfl⟩
abbrev main_call13_c : Ref sig .tc := ⟨.hbm, 368, rfl⟩
abbrev main_call13_v0 : Ref sig .tc := ⟨.hbm, 369, rfl⟩
abbrev main_call13_v1 : Ref sig .tc := ⟨.hbm, 370, rfl⟩
abbrev main_call13_c_0 : Ref sig .tc := ⟨.hbm, 371, rfl⟩
abbrev main_call13_v2 : Ref sig .tc := ⟨.hbm, 372, rfl⟩
abbrev main_call13_v3 : Ref sig .tc := ⟨.hbm, 373, rfl⟩
abbrev main_call13_v4 : Ref sig .tc := ⟨.hbm, 374, rfl⟩
abbrev main_call13_v5 : Ref sig .tc := ⟨.hbm, 375, rfl⟩
abbrev main_call13_c_1 : Ref sig .tc := ⟨.hbm, 376, rfl⟩
abbrev main_call13_c_2 : Ref sig .tc := ⟨.hbm, 377, rfl⟩
abbrev main_call13_v6 : Ref sig .tc := ⟨.hbm, 378, rfl⟩
abbrev main_call13_v7 : Ref sig .tc := ⟨.hbm, 379, rfl⟩
abbrev main_call13_v8 : Ref sig .tc := ⟨.hbm, 380, rfl⟩
abbrev main_call13_v9 : Ref sig .tc := ⟨.hbm, 381, rfl⟩
abbrev main_call13_v10 : Ref sig .tc := ⟨.hbm, 382, rfl⟩
abbrev main_call13_v11 : Ref sig .tc := ⟨.hbm, 383, rfl⟩
abbrev main_call13_c_3 : Ref sig .tc := ⟨.hbm, 384, rfl⟩
abbrev main_call13_v12 : Ref sig .tc := ⟨.hbm, 385, rfl⟩
abbrev main_call13_v13 : Ref sig .tc := ⟨.hbm, 386, rfl⟩
abbrev main_call13_v14 : Ref sig .tc := ⟨.hbm, 387, rfl⟩
abbrev main_call13_cst : Ref sig .tc := ⟨.hbm, 388, rfl⟩
abbrev main_call13_v15 : Ref sig .tc := ⟨.hbm, 389, rfl⟩
abbrev main_v58 : Ref sig .tc := ⟨.hbm, 390, rfl⟩
abbrev main_v59 : Ref sig .tc := ⟨.hbm, 391, rfl⟩
abbrev main_v60 : Ref sig .tc := ⟨.hbm, 392, rfl⟩
abbrev main_v61 : Ref sig .tc := ⟨.hbm, 393, rfl⟩
abbrev main_v62 : Ref sig .tc := ⟨.hbm, 394, rfl⟩
abbrev main_v63 : Ref sig .tc := ⟨.hbm, 395, rfl⟩
abbrev main_v64 : Ref sig .tc := ⟨.hbm, 396, rfl⟩
abbrev main_v65 : Ref sig .tc := ⟨.hbm, 397, rfl⟩
abbrev main_v66 : Ref sig .tc := ⟨.hbm, 398, rfl⟩
abbrev main_call14_cst : Ref sig .tc := ⟨.hbm, 399, rfl⟩
abbrev main_call14_v0 : Ref sig .tc := ⟨.hbm, 400, rfl⟩
abbrev main_v67 : Ref sig .tc := ⟨.hbm, 401, rfl⟩
abbrev main_v68 : Ref sig .tc := ⟨.hbm, 402, rfl⟩
abbrev main_v69 : Ref sig .tc := ⟨.hbm, 403, rfl⟩
abbrev main_v70 : Ref sig .tc := ⟨.hbm, 404, rfl⟩
abbrev main_v71 : Ref sig .tc := ⟨.hbm, 405, rfl⟩
abbrev main_call15_cst : Ref sig .tc := ⟨.hbm, 406, rfl⟩
abbrev main_call15_v0 : Ref sig .tc := ⟨.hbm, 407, rfl⟩
abbrev main_v72 : Ref sig .tc := ⟨.hbm, 408, rfl⟩
abbrev main_v73 : Ref sig .tc := ⟨.hbm, 409, rfl⟩
abbrev main_v74 : Ref sig .tc := ⟨.hbm, 410, rfl⟩
abbrev main_v75 : Ref sig .tc := ⟨.hbm, 411, rfl⟩
abbrev main_v76 : Ref sig .tc := ⟨.hbm, 412, rfl⟩
abbrev main_cst : Ref sig .tc := ⟨.hbm, 413, rfl⟩
abbrev main_v77 : Ref sig .tc := ⟨.hbm, 414, rfl⟩
abbrev main_v78 : Ref sig .tc := ⟨.hbm, 415, rfl⟩
abbrev main_cst_0 : Ref sig .tc := ⟨.hbm, 416, rfl⟩
abbrev main_v79 : Ref sig .tc := ⟨.hbm, 417, rfl⟩
abbrev main_v80 : Ref sig .tc := ⟨.hbm, 418, rfl⟩
abbrev main_v81 : Ref sig .tc := ⟨.hbm, 419, rfl⟩
abbrev main_v82 : Ref sig .tc := ⟨.hbm, 420, rfl⟩

abbrev nD : Nat := 1
abbrev τ : Topo := Topo.v7x

variable {F : FTy → Type} [FloatOps F]
-- ==== Proof.Math.lean ====
/-
  THE ALGEBRA of one row, over the extended reals. The kernel never looks a row up: for an id that is 0 or 1 it adds the
  table's row 0 and the id times (row 1 − row 0), with the first layer's weights already applied to both; the crossed
  feature it writes as a product of two ids; the average of the wide and the deep part it folds into the last weights.
-/
module

public import Idealize.ShloMosaic.Lib.Pointwise

@[expose] public section

noncomputable section

namespace Cert.Math

open Idealize.ShloMosaic

/-- A value that is a real number. -/
def Real (a : EReal) : Prop := ∃ r : ℝ, a = r

/-- The id `x` is 0 and `t` is the first row, or `x` is 1 and `t` is the second. -/
def Picks {α : Type} (x : EReal) (t0 t1 t : α) : Prop := (x = 0 ∧ t = t0) ∨ (x = 1 ∧ t = t1)

/-- The two ids pick one of four values. -/
def Picks4 (x y c00 c01 c10 c11 c : EReal) : Prop :=
  (x = 0 ∧ y = 0 ∧ c = c00) ∨ (x = 0 ∧ y = 1 ∧ c = c01) ∨ (x = 1 ∧ y = 0 ∧ c = c10) ∨ (x = 1 ∧ y = 1 ∧ c = c11)

/-- A sum of reals is the same sum among the extended reals. -/
theorem sum_real {n : ℕ} (f : Fin n → ℝ) : ∑ a, ((f a : ℝ) : EReal) = ((∑ a, f a : ℝ) : EReal) := by
  induction n with
  | zero => simp
  | succ n ih => rw [Fin.sum_univ_succ, Fin.sum_univ_succ, ih, EReal.coe_add]

/-- A picked row against a column of weights: row 0's share, and the id times the difference's. -/
theorem pick_dot {n : ℕ} {x : EReal} {t0 t1 t W : Fin n → EReal} (hp : Picks x t0 t1 t)
    (h0 : ∀ a, Real (t0 a)) (h1 : ∀ a, Real (t1 a)) (hW : ∀ a, Real (W a)) :
    x * (∑ a, (t1 a - t0 a) * W a) + ∑ a, t0 a * W a = ∑ a, t a * W a := by
  obtain ⟨r0, e0⟩ : ∃ f : Fin n → ℝ, t0 = fun a => ((f a : ℝ) : EReal) := ⟨fun a => (h0 a).choose, funext fun a => (h0 a).choose_spec⟩
  obtain ⟨r1, e1⟩ : ∃ f : Fin n → ℝ, t1 = fun a => ((f a : ℝ) : EReal) := ⟨fun a => (h1 a).choose, funext fun a => (h1 a).choose_spec⟩
  obtain ⟨w, ew⟩ : ∃ f : Fin n → ℝ, W = fun a => ((f a : ℝ) : EReal) := ⟨fun a => (hW a).choose, funext fun a => (hW a).choose_spec⟩
  rcases hp with ⟨hx, ht⟩ | ⟨hx, ht⟩
  · rw [hx, ht, zero_mul, zero_add]
  · subst hx ht e0 e1 ew
    simp only [← EReal.coe_sub, ← EReal.coe_mul, sum_real, one_mul, ← EReal.coe_add, ← Finset.sum_add_distrib]
    exact congrArg _ (Finset.sum_congr rfl fun a _ => by ring)

/-- A picked value: value 0, and the id times the difference. -/
theorem pick_val {x t0 t1 t : EReal} (hp : Picks x t0 t1 t) (h0 : Real t0) (h1 : Real t1) : x * (t1 - t0) + t0 = t := by
  obtain ⟨r0, rfl⟩ := h0
  obtain ⟨r1, rfl⟩ := h1
  rcases hp with ⟨hx, ht⟩ | ⟨hx, ht⟩
  · rw [hx, ht, zero_mul, zero_add]
  · rw [hx, ht, one_mul, ← EReal.coe_sub, ← EReal.coe_add]
    exact congrArg _ (by ring)

/-- The crossed feature: its value at two ids, as a constant, a share of each id, and the ids' product, which is the
    larger of their sum less one and zero. -/
theorem cross_val {x y a0 a1 a y0 y1 b c00 c01 c10 c11 c : EReal} (ha : Picks x a0 a1 a) (hb : Picks y y0 y1 b)
    (hc : Picks4 x y c00 c01 c10 c11 c) (fa0 : Real a0) (fa1 : Real a1) (fy0 : Real y0) (fy1 : Real y1)
    (f00 : Real c00) (f01 : Real c01) (f10 : Real c10) (f11 : Real c11) :
    x * (a1 - a0 + (c10 - c00)) + y * (y1 - y0 + (c01 - c00)) + (a0 + y0 + c00)
      + max (x + y + (-1)) 0 * (c11 - c10 - c01 + c00) = a + b + c := by
  obtain ⟨_, rfl⟩ := fa0
  obtain ⟨_, rfl⟩ := fa1
  obtain ⟨_, rfl⟩ := fy0
  obtain ⟨_, rfl⟩ := fy1
  obtain ⟨_, rfl⟩ := f00
  obtain ⟨_, rfl⟩ := f01
  obtain ⟨_, rfl⟩ := f10
  obtain ⟨_, rfl⟩ := f11
  have n0 : (0 : EReal) = ((0 : ℝ) : EReal) := rfl
  have n1 : (1 : EReal) = ((1 : ℝ) : EReal) := rfl
  have m00 : max ((0 : EReal) + 0 + -1) 0 = ((0 : ℝ) : EReal) := by
    rw [n1, n0, ← EReal.coe_neg, ← EReal.coe_add, ← EReal.coe_add]; exact max_eq_right (EReal.coe_le_coe_iff.2 (by norm_num))
  have m01 : max ((0 : EReal) + 1 + -1) 0 = ((0 : ℝ) : EReal) := by
    rw [n1, n0, ← EReal.coe_neg, ← EReal.coe_add, ← EReal.coe_add]; exact max_eq_right (EReal.coe_le_coe_iff.2 (by norm_num))
  have m10 : max ((1 : EReal) + 0 + -1) 0 = ((0 : ℝ) : EReal) := by
    rw [n1, n0, ← EReal.coe_neg, ← EReal.coe_add, ← EReal.coe_add]; exact max_eq_right (EReal.coe_le_coe_iff.2 (by norm_num))
  have m11 : max ((1 : EReal) + 1 + -1) 0 = ((1 : ℝ) : EReal) := by
    rw [n1, n0, ← EReal.coe_neg, ← EReal.coe_add, ← EReal.coe_add]
    exact (max_eq_left (EReal.coe_le_coe_iff.2 (by norm_num))).trans (congrArg _ (by norm_num))
  have n01 : (0 : EReal) ≠ 1 := by rw [n0, n1]; exact fun e => absurd (EReal.coe_eq_coe_iff.1 e) (by norm_num)
  rcases hc with ⟨hx, hy, hc⟩ | ⟨hx, hy, hc⟩ | ⟨hx, hy, hc⟩ | ⟨hx, hy, hc⟩ <;>
    rcases ha with ⟨hx', ha⟩ | ⟨hx', ha⟩ <;> rcases hb with ⟨hy', hb⟩ | ⟨hy', hb⟩ <;>
    first
    | (exfalso; exact n01 (hx.symm.trans hx'))
    | (exfalso; exact n01 (hx'.symm.trans hx))
    | (exfalso; exact n01 (hy.symm.trans hy'))
    | (exfalso; exact n01 (hy'.symm.trans hy))
    | (rw [ha, hb, hc, hx, hy]
       first | rw [m00] | rw [m01] | rw [m10] | rw [m11]
       simp only [n0, n1]
       simp only [← EReal.coe_sub, ← EReal.coe_mul, ← EReal.coe_add]
       exact congrArg _ (by ring))

/-- The first layer's input, seven looked-up rows against the weights: from the tables' first two rows, with the weights
    applied to row 0 and to the difference (left), and from the picked rows themselves (right). -/
theorem deep_eq {x0 x1 x3 x4 x5 x6 G S b : EReal}
    {u0 u1 u wu : Fin 16 → EReal} (hu : Picks x0 u0 u1 u) (fu0 : ∀ i, Real (u0 i)) (fu1 : ∀ i, Real (u1 i)) (fwu : ∀ i, Real (wu i))
    {m0 m1 m wm : Fin 16 → EReal} (hm : Picks x1 m0 m1 m) (fm0 : ∀ i, Real (m0 i)) (fm1 : ∀ i, Real (m1 i)) (fwm : ∀ i, Real (wm i))
    {a0 a1 a wa : Fin 8 → EReal} (ha : Picks x3 a0 a1 a) (fa0 : ∀ i, Real (a0 i)) (fa1 : ∀ i, Real (a1 i)) (fwa : ∀ i, Real (wa i))
    {o0 o1 o wo : Fin 16 → EReal} (ho : Picks x4 o0 o1 o) (fo0 : ∀ i, Real (o0 i)) (fo1 : ∀ i, Real (o1 i)) (fwo : ∀ i, Real (wo i))
    {y0 y1 y wy : Fin 8 → EReal} (hy : Picks x5 y0 y1 y) (fy0 : ∀ i, Real (y0 i)) (fy1 : ∀ i, Real (y1 i)) (fwy : ∀ i, Real (wy i))
    {q0 q1 q wq : Fin 4 → EReal} (hq : Picks x6 q0 q1 q) (fq0 : ∀ i, Real (q0 i)) (fq1 : ∀ i, Real (q1 i)) (fwq : ∀ i, Real (wq i)) :
    (x0 * (∑ i, (u1 i - u0 i) * wu i) + (x1 * (∑ i, (m1 i - m0 i) * wm i) + (G + (x3 * (∑ i, (a1 i - a0 i) * wa i) + (x4 * (∑ i, (o1 i - o0 i) * wo i) + (x5 * (∑ i, (y1 i - y0 i) * wy i) + (x6 * (∑ i, (q1 i - q0 i) * wq i) + S)))))))
      + (b + (∑ i, u0 i * wu i) + (∑ i, m0 i * wm i) + (∑ i, a0 i * wa i) + (∑ i, o0 i * wo i) + (∑ i, y0 i * wy i) + (∑ i, q0 i * wq i))
      = ((∑ i, u i * wu i) + ((∑ i, m i * wm i) + ((∑ i, a i * wa i) + ((∑ i, o i * wo i) + ((∑ i, y i * wy i) + ((∑ i, q i * wq i) + (G + S))))))) + b := by
  rw [← pick_dot hu fu0 fu1 fwu, ← pick_dot hm fm0 fm1 fwm, ← pick_dot ha fa0 fa1 fwa, ← pick_dot ho fo0 fo1 fwo, ← pick_dot hy fy0 fy1 fwy, ← pick_dot hq fq0 fq1 fwq]
  abel

/-- The wide part: from the tables' first two rows, with the crossed feature's share of each id and its product apart (left),
    and from the looked-up values (right). -/
theorem wide_eq {x0 x1 x2 x3 x4 x5 x6 S s : EReal}
    {u0 u1 u : EReal} (hu : Picks x0 u0 u1 u) (fu0 : Real u0) (fu1 : Real u1)
    {m0 m1 m : EReal} (hm : Picks x1 m0 m1 m) (fm0 : Real m0) (fm1 : Real m1)
    {g0 g1 g : EReal} (hg : Picks x2 g0 g1 g) (fg0 : Real g0) (fg1 : Real g1)
    {o0 o1 o : EReal} (ho : Picks x4 o0 o1 o) (fo0 : Real o0) (fo1 : Real o1)
    {q0 q1 q : EReal} (hq : Picks x6 q0 q1 q) (fq0 : Real q0) (fq1 : Real q1)
    {a0 a1 a y0 y1 y c00 c01 c10 c11 c : EReal} (ha : Picks x3 a0 a1 a) (hy : Picks x5 y0 y1 y)
    (hc : Picks4 x3 x5 c00 c01 c10 c11 c) (fa0 : Real a0) (fa1 : Real a1) (fy0 : Real y0) (fy1 : Real y1)
    (f00 : Real c00) (f01 : Real c01) (f10 : Real c10) (f11 : Real c11) :
    (x0 * (u1 - u0) + (x1 * (m1 - m0) + (x2 * (g1 - g0) + (x3 * (a1 - a0 + (c10 - c00)) + (x4 * (o1 - o0)
      + (x5 * (y1 - y0 + (c01 - c00)) + (x6 * (q1 - q0) + S)))))))
      + (u0 + m0 + g0 + a0 + o0 + y0 + q0 + s + c00) + max (x3 + x5 + -1) 0 * (c11 - c10 - c01 + c00)
      = u + m + g + a + o + y + q + (S + s) + c := by
  have e := cross_val ha hy hc fa0 fa1 fy0 fy1 f00 f01 f10 f11
  calc _ = (x0 * (u1 - u0) + u0) + (x1 * (m1 - m0) + m0) + (x2 * (g1 - g0) + g0) + (x4 * (o1 - o0) + o0) + (x6 * (q1 - q0) + q0)
        + (S + s) + (x3 * (a1 - a0 + (c10 - c00)) + x5 * (y1 - y0 + (c01 - c00)) + (a0 + y0 + c00)
          + max (x3 + x5 + -1) 0 * (c11 - c10 - c01 + c00)) := by
          generalize x3 * (a1 - a0 + (c10 - c00)) = A
          generalize x5 * (y1 - y0 + (c01 - c00)) = Y
          generalize max (x3 + x5 + -1) 0 * (c11 - c10 - c01 + c00) = C
          generalize x0 * (u1 - u0) = U
          generalize x1 * (m1 - m0) = M
          generalize x2 * (g1 - g0) = G
          generalize x4 * (o1 - o0) = O
          generalize x6 * (q1 - q0) = Q
          abel
    _ = _ := by
          rw [e, pick_val hu fu0 fu1, pick_val hm fm0 fm1, pick_val hg fg0 fg1, pick_val ho fo0 fo1, pick_val hq fq0 fq1]
          abel

/-- A non-negative real factor goes into a sum of extended reals. -/
theorem sum_mul_half {n : ℕ} {h : EReal} (h0 : 0 ≤ h) (h1 : h ≠ ⊤) (f : Fin n → EReal) :
    (∑ a, f a) * h = ∑ a, f a * h := by
  induction n with
  | zero => simp
  | succ n ih => rw [Fin.sum_univ_succ, Fin.sum_univ_succ, EReal.right_distrib_of_nonneg_of_ne_top h0 h1, ih]

/-- The average of the wide and the deep part, the weights halved beforehand and the crossed feature's product apart. -/
theorem average {h wp0 R kc wide b2 : EReal} (h0 : 0 ≤ h) (h1 : h ≠ ⊤) (H W2 : Fin 128 → EReal) (hw : wp0 + R * kc = wide) :
    ∑ j, H j * (h * W2 j) + ((wp0 * h + h * b2) + R * (h * kc)) = wide * h + (∑ j, H j * W2 j + b2) * h := by
  rw [← hw, EReal.right_distrib_of_nonneg_of_ne_top h0 h1, EReal.right_distrib_of_nonneg_of_ne_top h0 h1, sum_mul_half h0 h1]
  have e : ∀ j, H j * (h * W2 j) = H j * W2 j * h := fun j => by rw [mul_assoc, mul_comm h]
  rw [Finset.sum_congr rfl fun j _ => e j, mul_comm h b2, mul_comm h kc, ← mul_assoc]
  abel

/-- One half is a non-negative real. -/
theorem half_nonneg : (0 : EReal) ≤ Ideal.ofBits .f32 0x3F000000#32 ∧ Ideal.ofBits .f32 0x3F000000#32 ≠ (⊤ : EReal) := by
  have e : Ideal.ofBits .f32 0x3F000000#32 = ((1 / 2 : ℝ) : EReal) := by
    simp [Ideal.ofBits, Ideal.ieee, -EReal.coe_mul]; norm_num
  rw [e]
  exact ⟨EReal.coe_nonneg.2 (by norm_num), EReal.coe_ne_top _⟩

/-- The pattern of minus one. -/
theorem minus_one : Ideal.ofBits .f32 0xBF800000#32 = (-1 : EReal) := by
  have e : Ideal.ofBits .f32 0xBF800000#32 = ((-1 : ℝ) : EReal) := by
    simp [Ideal.ofBits, Ideal.ieee, -EReal.coe_mul, -EReal.coe_neg]; norm_num
  rw [e, EReal.coe_neg]; rfl

end Cert.Math

end
-- ==== Proof.KernelRow.lean ====
/-
  ONE ROW OF THE KERNEL'S BLOCK, entry by entry: what the stored block's column holds at a row, from the rows of the small
  tables the body loads. The body lays the weights side by side into one array per product and multiplies once; read at an
  entry, each product is cut back into its pieces.
-/
module

public import proofs.«01_k».proof.Proof.Gen.KernelIdeal.Skeleton
public import proofs.«01_k».proof.Proof.Math

@[expose] public section

set_option maxRecDepth 16384

noncomputable section

namespace Cert.KernelRow

open Idealize.ShloMosaic Cert.KernelIdeal Cert.KernelIdeal.Gen

/-- One half. -/
abbrev half : EReal := Ideal.ofBits .f32 0x3F000000#32

/-- The test of a column number for 0. -/
theorem is0 (k : Fin 128) : IntOp.cmpi .eq (BitVec.ofNat 32 k.val) 0#32 = if k = 0 then 1#1 else 0#1 := by
  revert k; decide
/-- The test of a column number for 1, widened. -/
theorem is1 (k : Fin 128) : BitVec.setWidth 32 (IntOp.cmpi .eq (BitVec.ofNat 32 k.val) 1#32) = if k = 1 then 1#32 else 0#32 := by
  revert k; decide
/-- The test of a column number for 2. -/
theorem is2 (k : Fin 128) : IntOp.cmpi .eq (BitVec.ofNat 32 k.val) 2#32 = if k = 2 then 1#1 else 0#1 := by
  revert k; decide
/-- The test of a column number for 3 or 5, widened. -/
theorem is35 (k : Fin 13) : BitVec.setWidth 32 (IntOp.ori (IntOp.cmpi .eq (BitVec.ofNat 32 k.val) 3#32) (IntOp.cmpi .eq (BitVec.ofNat 32 k.val) 5#32))
    = if k = 3 ∨ k = 5 then 1#32 else 0#32 := by
  revert k; decide

/-- The word 1 as a value is one. -/
theorem word_one : (FloatOps.sitofp .f32 (1#32) : Ideal .f32) = (1 : EReal) := by
  show ((((1#32 : BitVec 32).toInt : ℤ) : ℝ) : EReal) = 1
  norm_num
/-- The word 0 as a value is zero. -/
theorem word_zero : (FloatOps.sitofp .f32 (0#32) : Ideal .f32) = (0 : EReal) := by
  show ((((0#32 : BitVec 32).toInt : ℤ) : ℝ) : EReal) = 0
  norm_num

/-- The last product's middle piece: a half of column 0 and all of column 2. -/
theorem head_sum (f : Fin 128 → EReal) (c : EReal) :
    ∑ k : Fin 128, f k * (Scalar.select (IntOp.cmpi .eq (BitVec.ofNat 32 k.val) 0#32) c 0
      + Scalar.select (IntOp.cmpi .eq (BitVec.ofNat 32 k.val) 2#32) 1 0) = f 0 * c + f 2 := by
  have e : ∀ k : Fin 128, f k * (Scalar.select (IntOp.cmpi .eq (BitVec.ofNat 32 k.val) 0#32) c 0
      + Scalar.select (IntOp.cmpi .eq (BitVec.ofNat 32 k.val) 2#32) 1 0) = (if k = 0 then f 0 * c else 0) + (if k = 2 then f 2 else 0) := by
    intro k
    rw [is0, is2]
    by_cases h0 : k = 0
    · subst h0; simp [Scalar.select]
    · by_cases h2 : k = 2
      · subst h2; simp [Scalar.select]
      · simp [Scalar.select, h0, h2]
  rw [Finset.sum_congr rfl fun k _ => e k, Finset.sum_add_distrib]
  simp

/-- The last product's last piece: column 1, times the constant. -/
theorem tail_sum (f : Fin 128 → EReal) (c : EReal) :
    ∑ k : Fin 128, f k * ((FloatOps.sitofp .f32 (BitVec.setWidth 32 (IntOp.cmpi .eq (BitVec.ofNat 32 k.val) 1#32)) : Ideal .f32) * c) = f 1 * c := by
  have e : ∀ k : Fin 128, f k * ((FloatOps.sitofp .f32 (BitVec.setWidth 32 (IntOp.cmpi .eq (BitVec.ofNat 32 k.val) 1#32)) : Ideal .f32) * c)
      = if k = 1 then f 1 * c else 0 := by
    intro k
    rw [is1]
    by_cases h : k = 1
    · rw [if_pos h, if_pos h, word_one, one_mul, h]
    · rw [if_neg h, if_neg h, word_zero, zero_mul, mul_zero]
  rw [Finset.sum_congr rfl fun k _ => e k]
  simp

/-- The column that adds the two crossed ids. -/
theorem ids_sum (x : Fin 13 → EReal) :
    ∑ k : Fin 13, x k * (FloatOps.sitofp .f32 (BitVec.setWidth 32 (IntOp.ori (IntOp.cmpi .eq (BitVec.ofNat 32 k.val) 3#32)
      (IntOp.cmpi .eq (BitVec.ofNat 32 k.val) 5#32))) : Ideal .f32) = x 3 + x 5 := by
  have e : ∀ k : Fin 13, x k * (FloatOps.sitofp .f32 (BitVec.setWidth 32 (IntOp.ori (IntOp.cmpi .eq (BitVec.ofNat 32 k.val) 3#32)
      (IntOp.cmpi .eq (BitVec.ofNat 32 k.val) 5#32))) : Ideal .f32) = (if k = 3 then x 3 else 0) + (if k = 5 then x 5 else 0) := by
    intro k
    rw [is35]
    by_cases h3 : k = 3
    · subst h3; rw [if_pos (Or.inl rfl), word_one]; simp
    · by_cases h5 : k = 5
      · subst h5; rw [if_pos (Or.inr rfl), word_one]; simp
      · rw [if_neg (by simp [h3, h5]), word_zero]; simp [h3, h5]
  rw [Finset.sum_congr rfl fun k _ => e k, Finset.sum_add_distrib]
  simp

/-- The stored column at a row, from the products' operands. -/
theorem out_apply (v45 : FVec Ideal S13x256 .f32) (v77 : FVec Ideal S1x256 .f32) (v134 : FVec Ideal S13x128 .f32)
    (v160 : FVec Ideal S1x1 .f32) (v167 : FVec Ideal S1x128 .f32) (v188 : Vec Ideal S128x1 .f32)
    (v192 : Vec Ideal S8192x13 .f32) (v198 : Vec Ideal S256x128 .f32) (v200 : Vec Ideal S1x128 .f32) (r : Fin 8192) :
    k0_pay27 v45 v77 v134 v160 v167 (iota .tc S128x1 32 [0] iota_S128x1_d0_w32) (k0_pay25 (F := Ideal)) (k0_pay26 (F := Ideal)) v188 v192 v198 v200
      (ix2 r (0 : Fin 1))
      = ∑ j : Fin 128, max (∑ k : Fin 256, max (∑ i : Fin 13, v192 (ix2 r i) * v45 (ix2 i k) + v77 (ix2 (0 : Fin 1) k)) 0 * v198 (ix2 k j)
            + v200 (ix2 (0 : Fin 1) j)) 0 * (half * v188 (ix2 j (0 : Fin 1)))
        + (((∑ i : Fin 13, v192 (ix2 r i) * v134 (ix2 i (0 : Fin 128)) + v167 (ix2 (0 : Fin 1) (0 : Fin 128))) * half
            + (∑ i : Fin 13, v192 (ix2 r i) * v134 (ix2 i (2 : Fin 128)) + v167 (ix2 (0 : Fin 1) (2 : Fin 128))))
          + max (∑ i : Fin 13, v192 (ix2 r i) * v134 (ix2 i (1 : Fin 128)) + v167 (ix2 (0 : Fin 1) (1 : Fin 128))) 0
            * (half * v160 (ix2 (0 : Fin 1) (0 : Fin 1)))) := by
  pointwise [k0_pay27, k0_pay25, k0_pay26, sumSplitAll]
  rw [head_sum (fun x => ∑ x_1, v192 (ix2 r x_1) * v134 (ix2 x_1 x) + v167 (ix2 0 x)) half,
    tail_sum (fun x => max (∑ x_1, v192 (ix2 r x_1) * v134 (ix2 x_1 x) + v167 (ix2 0 x)) 0) (half * v160 (ix2 0 0))]

section deep

variable (v0 : Vec Ideal S75x256 .f32) (u1 u0 m1 m0 : Vec Ideal S1x16 .f32) (a1 a0 : Vec Ideal S1x8 .f32)
  (o1 o0 : Vec Ideal S1x16 .f32) (y1 y0 : Vec Ideal S1x8 .f32) (q1 q0 : Vec Ideal S1x4 .f32) (j : Fin 256)

/-- The first layer's product: ids times the tables' differences under the weights, the gender id and the statistics. -/
theorem ga_apply (x : Fin 13 → EReal) :
    ∑ k : Fin 13, x k * k0_pay7 v0 (k0_pay1 v0 u1 u0) (k0_pay2 v0 m1 m0) (k0_pay3 v0) (k0_pay4 v0 a1 a0) (k0_pay5 v0 o1 o0) (k0_pay6 y1) y0 q1 q0 (ix2 k j)
      = x 0 * (∑ i, (u1 (ix2 (0 : Fin 1) i) - u0 (ix2 (0 : Fin 1) i)) * v0 (ix2 ⟨i.val, by omega⟩ j)) + (x 1 * (∑ i, (m1 (ix2 (0 : Fin 1) i) - m0 (ix2 (0 : Fin 1) i)) * v0 (ix2 ⟨16 + i.val, by omega⟩ j))
        + (x 2 * v0 (ix2 68 j) + (x 3 * (∑ i, (a1 (ix2 (0 : Fin 1) i) - a0 (ix2 (0 : Fin 1) i)) * v0 (ix2 ⟨32 + i.val, by omega⟩ j))
        + (x 4 * (∑ i, (o1 (ix2 (0 : Fin 1) i) - o0 (ix2 (0 : Fin 1) i)) * v0 (ix2 ⟨40 + i.val, by omega⟩ j)) + (x 5 * (∑ i, (y1 (ix2 (0 : Fin 1) i) - y0 (ix2 (0 : Fin 1) i)) * v0 (ix2 ⟨56 + i.val, by omega⟩ j))
        + (x 6 * (∑ i, (q1 (ix2 (0 : Fin 1) i) - q0 (ix2 (0 : Fin 1) i)) * v0 (ix2 ⟨64 + i.val, by omega⟩ j)) + ∑ i : Fin 6, x ⟨7 + i.val, by omega⟩ * v0 (ix2 ⟨69 + i.val, by omega⟩ j))))))) := by
  pointwise [k0_pay7, k0_pay1, k0_pay2, k0_pay3, k0_pay4, k0_pay5, k0_pay6, sumSplitAll]
  simp only [Fin.sum_univ_one, ← Nat.add_assoc, Nat.reduceAdd]

/-- The first layer's bias: row 0 of each table under the weights, added to the given bias. -/
theorem bias_apply (b : Vec Ideal S1x256 .f32) :
    k0_pay11 v0 (k0_pay8 v0 b u0 m0 a0 o0) (k0_pay9 y0) (k0_pay10 v0) q0 (ix2 (0 : Fin 1) j)
      = b (ix2 (0 : Fin 1) j) + (∑ i, u0 (ix2 (0 : Fin 1) i) * v0 (ix2 ⟨i.val, by omega⟩ j)) + (∑ i, m0 (ix2 (0 : Fin 1) i) * v0 (ix2 ⟨16 + i.val, by omega⟩ j)) + (∑ i, a0 (ix2 (0 : Fin 1) i) * v0 (ix2 ⟨32 + i.val, by omega⟩ j)) + (∑ i, o0 (ix2 (0 : Fin 1) i) * v0 (ix2 ⟨40 + i.val, by omega⟩ j)) + (∑ i, y0 (ix2 (0 : Fin 1) i) * v0 (ix2 ⟨56 + i.val, by omega⟩ j)) + (∑ i, q0 (ix2 (0 : Fin 1) i) * v0 (ix2 ⟨64 + i.val, by omega⟩ j)) := by
  pointwise [k0_pay11, k0_pay8, k0_pay9, k0_pay10]

end deep

section wide

variable (c00 c01 c10 c11 u1 u0 m1 m0 g1 g0 a1 a0 o1 o0 y1 y0 q1 q0 : Vec Ideal S1x1 .f32) (ws : Vec Ideal S6x1 .f32) (x : Fin 13 → EReal)

/-- The one entry of a 1 × 1 array. -/
abbrev at0 (v : Vec Ideal S1x1 .f32) : EReal := v (ix2 (0 : Fin 1) (0 : Fin 1))

/-- Column 0 of the wide product: the ids times the differences, with the crossed feature's shares, and the statistics. -/
theorem gw0 : ∑ k : Fin 13, x k * k0_pay21 (k0_pay12 c00) (k0_pay13 c01) (k0_pay14 c10) (k0_pay16 u1 u0) (k0_pay17 m1 m0) (k0_pay18 g1 g0) (k0_pay19 a1)
      (k0_pay20 a0) o1 o0 y1 y0 q1 q0 ws (ix2 k (0 : Fin 128))
    = x 0 * (at0 u1 - at0 u0) + (x 1 * (at0 m1 - at0 m0) + (x 2 * (at0 g1 - at0 g0) + (x 3 * (at0 a1 - at0 a0 + (at0 c10 - at0 c00))
      + (x 4 * (at0 o1 - at0 o0) + (x 5 * (at0 y1 - at0 y0 + (at0 c01 - at0 c00)) + (x 6 * (at0 q1 - at0 q0)
      + ∑ s : Fin 6, x ⟨7 + s.val, by omega⟩ * ws (ix2 s (0 : Fin 1)))))))) := by
  pointwise [k0_pay21, k0_pay12, k0_pay13, k0_pay14, k0_pay16, k0_pay17, k0_pay18, k0_pay19, k0_pay20, sumSplitAll]
  simp only [Fin.sum_univ_one, ← Nat.add_assoc, Nat.reduceAdd]

/-- Column 1: the sum of the two crossed ids. -/
theorem gw1 : ∑ k : Fin 13, x k * k0_pay21 (k0_pay12 c00) (k0_pay13 c01) (k0_pay14 c10) (k0_pay16 u1 u0) (k0_pay17 m1 m0) (k0_pay18 g1 g0) (k0_pay19 a1)
      (k0_pay20 a0) o1 o0 y1 y0 q1 q0 ws (ix2 k (1 : Fin 128)) = x 3 + x 5 := by
  refine Eq.trans ?_ (ids_sum x)
  pointwise [k0_pay21, k0_pay12, k0_pay13, k0_pay14, k0_pay16, k0_pay17, k0_pay18, k0_pay19, k0_pay20]

/-- Column 2: nothing. -/
theorem gw2 : ∑ k : Fin 13, x k * k0_pay21 (k0_pay12 c00) (k0_pay13 c01) (k0_pay14 c10) (k0_pay16 u1 u0) (k0_pay17 m1 m0) (k0_pay18 g1 g0) (k0_pay19 a1)
      (k0_pay20 a0) o1 o0 y1 y0 q1 q0 ws (ix2 k (2 : Fin 128)) = 0 := by
  pointwise [k0_pay21, k0_pay12, k0_pay13, k0_pay14, k0_pay16, k0_pay17, k0_pay18, k0_pay19, k0_pay20]
  simp

variable (wsb b2 : Vec Ideal S1x1 .f32)

/-- The wide bias, columns 0, 1 and 2, and the factor of the crossed ids' product. -/
theorem cw0 : k0_pay24 (k0_pay12 c00) (k0_pay22 u0 m0) g0 a0 o0 y0 q0 wsb b2 (ix2 (0 : Fin 1) (0 : Fin 128))
    = at0 u0 + at0 m0 + at0 g0 + at0 a0 + at0 o0 + at0 y0 + at0 q0 + at0 wsb + at0 c00 := by
  pointwise [k0_pay24, k0_pay12, k0_pay22]
/-- Column 1 of the wide bias is −1. -/
theorem cw1 : k0_pay24 (k0_pay12 c00) (k0_pay22 u0 m0) g0 a0 o0 y0 q0 wsb b2 (ix2 (0 : Fin 1) (1 : Fin 128)) = (-1 : EReal) := by
  refine Eq.trans ?_ Cert.Math.minus_one
  pointwise [k0_pay24, k0_pay12, k0_pay22]
/-- Column 2 of the wide bias is half the last bias. -/
theorem cw2 : k0_pay24 (k0_pay12 c00) (k0_pay22 u0 m0) g0 a0 o0 y0 q0 wsb b2 (ix2 (0 : Fin 1) (2 : Fin 128)) = half * at0 b2 := by
  pointwise [k0_pay24, k0_pay12, k0_pay22]
/-- The factor of the crossed ids' product: the mixed difference of four entries of the crossed column. -/
theorem kc : k0_pay23 (k0_pay12 c00) (k0_pay13 c01) (k0_pay14 c10) (k0_pay15 c11) (ix2 (0 : Fin 1) (0 : Fin 1))
    = at0 c11 - at0 c10 - at0 c01 + at0 c00 := by
  pointwise [k0_pay23, k0_pay12, k0_pay13, k0_pay14, k0_pay15]

end wide

end Cert.KernelRow
end
-- ==== Proof.KernelBlock.lean ====
/-
  THE STORED BLOCK at a row, from the blocks the body reads: the loads of single rows opened, the products' entries put in.
-/
module

public import proofs.«01_k».proof.Proof.Gen.KernelIdeal.Frame
public import proofs.«01_k».proof.Proof.KernelRow
public import Idealize.ShloMosaic.Lib.Pipeline.ValueKit

@[expose] public section

set_option maxRecDepth 16384

noncomputable section

namespace Cert.KernelBlock

open Idealize.ShloMosaic Cert.KernelIdeal Cert.KernelIdeal.Gen Cert.KernelRow

/-- An offset of two zeros is the zero offset. -/
theorem hz : (![0, 0] : Fin 2 → Nat) = fun _ => 0 := funext fun a => by fin_cases a <;> rfl

/-- A load of a rectangle, at an index of it: the array at the index the rectangle places it at. -/
theorem ld_at {S : Shape} (X : Vec Ideal S .f32) (R : Rect S) (i : R.shape.Idx) (j : S.Idx) (h : ∀ a, (R.idx i a : ℕ) = j a) :
    View.ld X R i = X j :=
  congrArg X (funext fun a => Fin.ext (h a))

section terms

variable (x0 : Vec Ideal S8192x13 .f32) (x1 : Vec Ideal S8x16 .f32) (x2 : Vec Ideal S8x16 .f32) (x3 : Vec Ideal S8x8 .f32) (x4 : Vec Ideal S8x16 .f32) (x5 : Vec Ideal S8x8 .f32)
    (x6 : Vec Ideal S8x4 .f32) (x7 : Vec Ideal S8x1 .f32) (x8 : Vec Ideal S8x1 .f32) (x9 : Vec Ideal S2x1 .f32) (x10 : Vec Ideal S8x1 .f32) (x11 : Vec Ideal S8x1 .f32)
    (x12 : Vec Ideal S8x1 .f32) (x13 : Vec Ideal S8x1 .f32) (x14 : Vec Ideal S6x1 .f32) (x15 : Vec Ideal S1x1 .f32) (x16 : Vec Ideal S88x1 .f32) (x17 : Vec Ideal S75x256 .f32)
    (x18 : Vec Ideal S1x256 .f32) (x19 : Vec Ideal S256x128 .f32) (x20 : Vec Ideal S1x128 .f32) (x21 : Vec Ideal S128x1 .f32) (x22 : Vec Ideal S1x1 .f32)

/-- The first layer's input at a row and a unit, as the body computes it. -/
def pre (r : Fin 8192) (k : Fin 256) : EReal :=
  (x0 (ix2 r 0) * (∑ i, (x1 (ix2 1 i) - x1 (ix2 0 i)) * x17 (ix2 ⟨i.val, by omega⟩ k)) + (x0 (ix2 r 1) * (∑ i, (x2 (ix2 1 i) - x2 (ix2 0 i)) * x17 (ix2 ⟨16 + i.val, by omega⟩ k))
        + (x0 (ix2 r 2) * x17 (ix2 68 k) + (x0 (ix2 r 3) * (∑ i, (x3 (ix2 1 i) - x3 (ix2 0 i)) * x17 (ix2 ⟨32 + i.val, by omega⟩ k))
        + (x0 (ix2 r 4) * (∑ i, (x4 (ix2 1 i) - x4 (ix2 0 i)) * x17 (ix2 ⟨40 + i.val, by omega⟩ k)) + (x0 (ix2 r 5) * (∑ i, (x5 (ix2 1 i) - x5 (ix2 0 i)) * x17 (ix2 ⟨56 + i.val, by omega⟩ k))
        + (x0 (ix2 r 6) * (∑ i, (x6 (ix2 1 i) - x6 (ix2 0 i)) * x17 (ix2 ⟨64 + i.val, by omega⟩ k)) + ∑ i : Fin 6, x0 (ix2 r ⟨7 + i.val, by omega⟩) * x17 (ix2 ⟨69 + i.val, by omega⟩ k))))))))
    + (x18 (ix2 0 k) + (∑ i, x1 (ix2 0 i) * x17 (ix2 ⟨i.val, by omega⟩ k)) + (∑ i, x2 (ix2 0 i) * x17 (ix2 ⟨16 + i.val, by omega⟩ k)) + (∑ i, x3 (ix2 0 i) * x17 (ix2 ⟨32 + i.val, by omega⟩ k)) + (∑ i, x4 (ix2 0 i) * x17 (ix2 ⟨40 + i.val, by omega⟩ k)) + (∑ i, x5 (ix2 0 i) * x17 (ix2 ⟨56 + i.val, by omega⟩ k)) + (∑ i, x6 (ix2 0 i) * x17 (ix2 ⟨64 + i.val, by omega⟩ k)))

/-- Column 0 of the wide product at a row. -/
def wideSum (r : Fin 8192) : EReal :=
  x0 (ix2 r 0) * (x7 (ix2 1 0) - x7 (ix2 0 0)) + (x0 (ix2 r 1) * (x8 (ix2 1 0) - x8 (ix2 0 0)) + (x0 (ix2 r 2) * (x9 (ix2 1 0) - x9 (ix2 0 0)) + (x0 (ix2 r 3) * (x10 (ix2 1 0) - x10 (ix2 0 0) + (x16 (ix2 83 0) - x16 (ix2 0 0)))
      + (x0 (ix2 r 4) * (x11 (ix2 1 0) - x11 (ix2 0 0)) + (x0 (ix2 r 5) * (x12 (ix2 1 0) - x12 (ix2 0 0) + (x16 (ix2 1 0) - x16 (ix2 0 0))) + (x0 (ix2 r 6) * (x13 (ix2 1 0) - x13 (ix2 0 0))
      + ∑ s : Fin 6, x0 (ix2 r ⟨7 + s.val, by omega⟩) * x14 (ix2 s 0)))))))

/-- Column 0 of the wide bias. -/
def wideBias : EReal :=
  x7 (ix2 0 0) + x8 (ix2 0 0) + x9 (ix2 0 0) + x10 (ix2 0 0) + x11 (ix2 0 0) + x12 (ix2 0 0) + x13 (ix2 0 0) + x15 (ix2 0 0) + x16 (ix2 0 0)

/-- The factor of the crossed ids' product. -/
def crossFactor : EReal :=
  x16 (ix2 84 0) - x16 (ix2 83 0) - x16 (ix2 1 0) + x16 (ix2 0 0)

/-- The stored block's entry at a row. -/
def cell (r : Fin 8192) : EReal :=
  ∑ j : Fin 128, max (∑ k : Fin 256, max (pre x0 x1 x2 x3 x4 x5 x6 x17 x18 r k) 0 * x19 (ix2 k j) + x20 (ix2 0 j)) 0 * (half * x21 (ix2 j 0))
    + (((wideSum x0 x7 x8 x9 x10 x11 x12 x13 x14 x16 r + wideBias x7 x8 x9 x10 x11 x12 x13 x15 x16) * half + (0 + half * x22 (ix2 0 0))) + max (x0 (ix2 r 3) + x0 (ix2 r 5) + -1) 0 * (half * crossFactor x16))

/-- The body's stored block at a row is `cell` of the blocks it reads. -/
theorem block_apply (r : Fin 8192) : out0_23 x0 x1 x2 x3 x4 x5 x6 x7 x8 x9 x10 x11 x12 x13 x14 x15 x16 x17 x18 x19 x20 x21 x22 (ix2 r (0 : Fin 1)) = cell x0 x1 x2 x3 x4 x5 x6 x7 x8 x9 x10 x11 x12 x13 x14 x15 x16 x17 x18 x19 x20 x21 x22 r := by
  unfold_out out0_23
  rw [View.canon_unit_zero hz]
  rw [out_apply]
  simp only [ga_apply, bias_apply, gw0, gw1, gw2, cw0, cw1, cw2, kc, at0]
  unfold cell pre wideSum wideBias crossFactor
  reads_congr
  all_goals first | exact congrFun (View.ld_unit_zero hz _ _) _ | exact ld_at _ _ _ _ (fun a => by fin_cases a <;> first | rfl | exact (Nat.zero_add _).trans (Nat.one_mul _))

end terms

end Cert.KernelBlock
end
-- ==== Proof.KernelBlocks.lean ====
/-
  THE KERNEL'S BLOCKS as parts of its arguments: the ids' block `t` is rows 8192 t … 8192 t + 8191, every other block is its
  whole array, which the host has cut to its first rows or given a unit axis; so a row of the stored block is one function
  of the arguments at the row of the whole array.
-/
module

public import proofs.«01_k».proof.Proof.KernelBlock
public import Idealize.ShloMosaic.Lib.Claim

@[expose] public section

set_option maxRecDepth 16384

noncomputable section

namespace Cert.KernelBlocks

open Idealize.ShloMosaic Cert.KernelIdeal Cert.KernelIdeal.Gen Cert.KernelRow Cert.KernelBlock

variable (m : (ℓ : Loc nD τ sig) → Buf (Elt Ideal) ℓ) (c : Dev nD)

/-- The arguments on device `c`, by name. -/
abbrev xs : FVec Ideal S16384x13 .f32 := m ((c.tc : Thread nD τ).loc main_arg0)
/-- The users' vectors, among the arguments. -/
abbrev userEmb : FVec Ideal S1000001x16 .f32 := m ((c.tc : Thread nD τ).loc main_arg1)
/-- The movies' vectors, among the arguments. -/
abbrev movieEmb : FVec Ideal S100001x16 .f32 := m ((c.tc : Thread nD τ).loc main_arg2)
/-- The ages' vectors, among the arguments. -/
abbrev ageEmb : FVec Ideal S8x8 .f32 := m ((c.tc : Thread nD τ).loc main_arg3)
/-- The occupations' vectors, among the arguments. -/
abbrev occEmb : FVec Ideal S22x16 .f32 := m ((c.tc : Thread nD τ).loc main_arg4)
/-- The movie years' vectors, among the arguments. -/
abbrev myearEmb : FVec Ideal S83x8 .f32 := m ((c.tc : Thread nD τ).loc main_arg5)
/-- The rating years' vectors, among the arguments. -/
abbrev ryearEmb : FVec Ideal S11x4 .f32 := m ((c.tc : Thread nD τ).loc main_arg6)
/-- The users' weights, among the arguments. -/
abbrev wideUser : FVec Ideal S1000001x1 .f32 := m ((c.tc : Thread nD τ).loc main_arg7)
/-- The movies' weights, among the arguments. -/
abbrev wideMovie : FVec Ideal S100001x1 .f32 := m ((c.tc : Thread nD τ).loc main_arg8)
/-- The genders' weights, among the arguments. -/
abbrev wideGender : FVec Ideal S2x1 .f32 := m ((c.tc : Thread nD τ).loc main_arg9)
/-- The ages' weights, among the arguments. -/
abbrev wideAge : FVec Ideal S8x1 .f32 := m ((c.tc : Thread nD τ).loc main_arg10)
/-- The occupations' weights, among the arguments. -/
abbrev wideOcc : FVec Ideal S22x1 .f32 := m ((c.tc : Thread nD τ).loc main_arg11)
/-- The movie years' weights, among the arguments. -/
abbrev wideMyear : FVec Ideal S83x1 .f32 := m ((c.tc : Thread nD τ).loc main_arg12)
/-- The rating years' weights, among the arguments. -/
abbrev wideRyear : FVec Ideal S11x1 .f32 := m ((c.tc : Thread nD τ).loc main_arg13)
/-- The statistics' weights, among the arguments. -/
abbrev statW : FVec Ideal S6x1 .f32 := m ((c.tc : Thread nD τ).loc main_arg14)
/-- The statistics' bias, among the arguments. -/
abbrev statB : FVec Ideal S1 .f32 := m ((c.tc : Thread nD τ).loc main_arg15)
/-- The pairs' weights, among the arguments. -/
abbrev wideCross : FVec Ideal S664x1 .f32 := m ((c.tc : Thread nD τ).loc main_arg16)
/-- The first layer's weights, among the arguments. -/
abbrev wt0 : FVec Ideal S75x256 .f32 := m ((c.tc : Thread nD τ).loc main_arg17)
/-- The first layer's bias, among the arguments. -/
abbrev bs0 : FVec Ideal S256 .f32 := m ((c.tc : Thread nD τ).loc main_arg18)
/-- The second layer's weights, among the arguments. -/
abbrev wt1 : FVec Ideal S256x128 .f32 := m ((c.tc : Thread nD τ).loc main_arg19)
/-- The second layer's bias, among the arguments. -/
abbrev bs1 : FVec Ideal S128 .f32 := m ((c.tc : Thread nD τ).loc main_arg20)
/-- The last layer's weights, among the arguments. -/
abbrev wt2 : FVec Ideal S128x1 .f32 := m ((c.tc : Thread nD τ).loc main_arg21)
/-- The last layer's bias, among the arguments. -/
abbrev bs2 : FVec Ideal S1 .f32 := m ((c.tc : Thread nD τ).loc main_arg22)

/-- The blocks' places in their arrays, by evaluation at the two points. -/
theorem idx0 : ∀ t : Fin cfg0.N, win0_0.index t = ![t.val, 0] := (by decide +kernel : ∀ t : Fin grid0.N, _)
/-- Window 1 (the users' vectors) stages the same block at each point. -/
theorem idx1 : ∀ t : Fin cfg0.N, win0_1.index t = ![0, 0] := (by decide +kernel : ∀ t : Fin grid0.N, _)
/-- Window 2 (the movies' vectors) stages the same block at each point. -/
theorem idx2 : ∀ t : Fin cfg0.N, win0_2.index t = ![0, 0] := (by decide +kernel : ∀ t : Fin grid0.N, _)
/-- Window 3 (the ages' vectors) stages the same block at each point. -/
theorem idx3 : ∀ t : Fin cfg0.N, win0_3.index t = ![0, 0] := (by decide +kernel : ∀ t : Fin grid0.N, _)
/-- Window 4 (the occupations' vectors) stages the same block at each point. -/
theorem idx4 : ∀ t : Fin cfg0.N, win0_4.index t = ![0, 0] := (by decide +kernel : ∀ t : Fin grid0.N, _)
/-- Window 5 (the movie years' vectors) stages the same block at each point. -/
theorem idx5 : ∀ t : Fin cfg0.N, win0_5.index t = ![0, 0] := (by decide +kernel : ∀ t : Fin grid0.N, _)
/-- Window 6 (the rating years' vectors) stages the same block at each point. -/
theorem idx6 : ∀ t : Fin cfg0.N, win0_6.index t = ![0, 0] := (by decide +kernel : ∀ t : Fin grid0.N, _)
/-- Window 7 (the users' weights) stages the same block at each point. -/
theorem idx7 : ∀ t : Fin cfg0.N, win0_7.index t = ![0, 0] := (by decide +kernel : ∀ t : Fin grid0.N, _)
/-- Window 8 (the movies' weights) stages the same block at each point. -/
theorem idx8 : ∀ t : Fin cfg0.N, win0_8.index t = ![0, 0] := (by decide +kernel : ∀ t : Fin grid0.N, _)
/-- Window 9 (the genders' weights) stages the same block at each point. -/
theorem idx9 : ∀ t : Fin cfg0.N, win0_9.index t = ![0, 0] := (by decide +kernel : ∀ t : Fin grid0.N, _)
/-- Window 10 (the ages' weights) stages the same block at each point. -/
theorem idx10 : ∀ t : Fin cfg0.N, win0_10.index t = ![0, 0] := (by decide +kernel : ∀ t : Fin grid0.N, _)
/-- Window 11 (the occupations' weights) stages the same block at each point. -/
theorem idx11 : ∀ t : Fin cfg0.N, win0_11.index t = ![0, 0] := (by decide +kernel : ∀ t : Fin grid0.N, _)
/-- Window 12 (the movie years' weights) stages the same block at each point. -/
theorem idx12 : ∀ t : Fin cfg0.N, win0_12.index t = ![0, 0] := (by decide +kernel : ∀ t : Fin grid0.N, _)
/-- Window 13 (the rating years' weights) stages the same block at each point. -/
theorem idx13 : ∀ t : Fin cfg0.N, win0_13.index t = ![0, 0] := (by decide +kernel : ∀ t : Fin grid0.N, _)
/-- Window 14 (the statistics' weights) stages the same block at each point. -/
theorem idx14 : ∀ t : Fin cfg0.N, win0_14.index t = ![0, 0] := (by decide +kernel : ∀ t : Fin grid0.N, _)
/-- Window 15 (the statistics' bias) stages the same block at each point. -/
theorem idx15 : ∀ t : Fin cfg0.N, win0_15.index t = ![0, 0] := (by decide +kernel : ∀ t : Fin grid0.N, _)
/-- Window 16 (the pairs' weights) stages the same block at each point. -/
theorem idx16 : ∀ t : Fin cfg0.N, win0_16.index t = ![0, 0] := (by decide +kernel : ∀ t : Fin grid0.N, _)
/-- Window 17 (the first layer's weights) stages the same block at each point. -/
theorem idx17 : ∀ t : Fin cfg0.N, win0_17.index t = ![0, 0] := (by decide +kernel : ∀ t : Fin grid0.N, _)
/-- Window 18 (the first layer's bias) stages the same block at each point. -/
theorem idx18 : ∀ t : Fin cfg0.N, win0_18.index t = ![0, 0] := (by decide +kernel : ∀ t : Fin grid0.N, _)
/-- Window 19 (the second layer's weights) stages the same block at each point. -/
theorem idx19 : ∀ t : Fin cfg0.N, win0_19.index t = ![0, 0] := (by decide +kernel : ∀ t : Fin grid0.N, _)
/-- Window 20 (the second layer's bias) stages the same block at each point. -/
theorem idx20 : ∀ t : Fin cfg0.N, win0_20.index t = ![0, 0] := (by decide +kernel : ∀ t : Fin grid0.N, _)
/-- Window 21 (the last layer's weights) stages the same block at each point. -/
theorem idx21 : ∀ t : Fin cfg0.N, win0_21.index t = ![0, 0] := (by decide +kernel : ∀ t : Fin grid0.N, _)
/-- Window 22 (the last layer's bias) stages the same block at each point. -/
theorem idx22 : ∀ t : Fin cfg0.N, win0_22.index t = ![0, 0] := (by decide +kernel : ∀ t : Fin grid0.N, _)
/-- The result's window stages block `t` of rows at point `t`. -/
theorem idx23 : ∀ t : Fin cfg0.N, win0_23.index t = ![t.val, 0] := (by decide +kernel : ∀ t : Fin grid0.N, _)

/-- What the host writes before the launch: a table's first rows, or a bias with a unit axis. -/
theorem V_main_v0 : V m c main_v0 = extractStridedSlice S8x16 ![0, 0] (userEmb m c) slices_S1000001x16_S8x16_0_0 := by
  show StableHlo.after (List.flatten [hostOps0]) (fun b => m (c, b)) (Proc.devRef .tc main_v0) = _
  simp only [hostOps0, List.flatten_cons, List.flatten_nil, List.append_nil]
  after_results
/-- When the launch starts, this buffer holds the first rows of the movies' vectors. -/
theorem V_main_v1 : V m c main_v1 = extractStridedSlice S8x16 ![0, 0] (movieEmb m c) slices_S100001x16_S8x16_0_0 := by
  show StableHlo.after (List.flatten [hostOps0]) (fun b => m (c, b)) (Proc.devRef .tc main_v1) = _
  simp only [hostOps0, List.flatten_cons, List.flatten_nil, List.append_nil]
  after_results
/-- When the launch starts, this buffer holds the first rows of the ages' vectors. -/
theorem V_main_v2 : V m c main_v2 = extractStridedSlice S8x8 ![0, 0] (ageEmb m c) slices_S8x8_S8x8_0_0 := by
  show StableHlo.after (List.flatten [hostOps0]) (fun b => m (c, b)) (Proc.devRef .tc main_v2) = _
  simp only [hostOps0, List.flatten_cons, List.flatten_nil, List.append_nil]
  after_results
/-- When the launch starts, this buffer holds the first rows of the occupations' vectors. -/
theorem V_main_v3 : V m c main_v3 = extractStridedSlice S8x16 ![0, 0] (occEmb m c) slices_S22x16_S8x16_0_0 := by
  show StableHlo.after (List.flatten [hostOps0]) (fun b => m (c, b)) (Proc.devRef .tc main_v3) = _
  simp only [hostOps0, List.flatten_cons, List.flatten_nil, List.append_nil]
  after_results
/-- When the launch starts, this buffer holds the first rows of the movie years' vectors. -/
theorem V_main_v4 : V m c main_v4 = extractStridedSlice S8x8 ![0, 0] (myearEmb m c) slices_S83x8_S8x8_0_0 := by
  show StableHlo.after (List.flatten [hostOps0]) (fun b => m (c, b)) (Proc.devRef .tc main_v4) = _
  simp only [hostOps0, List.flatten_cons, List.flatten_nil, List.append_nil]
  after_results
/-- When the launch starts, this buffer holds the first rows of the rating years' vectors. -/
theorem V_main_v5 : V m c main_v5 = extractStridedSlice S8x4 ![0, 0] (ryearEmb m c) slices_S11x4_S8x4_0_0 := by
  show StableHlo.after (List.flatten [hostOps0]) (fun b => m (c, b)) (Proc.devRef .tc main_v5) = _
  simp only [hostOps0, List.flatten_cons, List.flatten_nil, List.append_nil]
  after_results
/-- When the launch starts, this buffer holds the first rows of the users' weights. -/
theorem V_main_v6 : V m c main_v6 = extractStridedSlice S8x1 ![0, 0] (wideUser m c) slices_S1000001x1_S8x1_0_0 := by
  show StableHlo.after (List.flatten [hostOps0]) (fun b => m (c, b)) (Proc.devRef .tc main_v6) = _
  simp only [hostOps0, List.flatten_cons, List.flatten_nil, List.append_nil]
  after_results
/-- When the launch starts, this buffer holds the first rows of the movies' weights. -/
theorem V_main_v7 : V m c main_v7 = extractStridedSlice S8x1 ![0, 0] (wideMovie m c) slices_S100001x1_S8x1_0_0 := by
  show StableHlo.after (List.flatten [hostOps0]) (fun b => m (c, b)) (Proc.devRef .tc main_v7) = _
  simp only [hostOps0, List.flatten_cons, List.flatten_nil, List.append_nil]
  after_results
/-- When the launch starts, this buffer holds the first rows of the ages' weights. -/
theorem V_main_v8 : V m c main_v8 = extractStridedSlice S8x1 ![0, 0] (wideAge m c) slices_S8x1_S8x1_0_0 := by
  show StableHlo.after (List.flatten [hostOps0]) (fun b => m (c, b)) (Proc.devRef .tc main_v8) = _
  simp only [hostOps0, List.flatten_cons, List.flatten_nil, List.append_nil]
  after_results
/-- When the launch starts, this buffer holds the first rows of the occupations' weights. -/
theorem V_main_v9 : V m c main_v9 = extractStridedSlice S8x1 ![0, 0] (wideOcc m c) slices_S22x1_S8x1_0_0 := by
  show StableHlo.after (List.flatten [hostOps0]) (fun b => m (c, b)) (Proc.devRef .tc main_v9) = _
  simp only [hostOps0, List.flatten_cons, List.flatten_nil, List.append_nil]
  after_results
/-- When the launch starts, this buffer holds the first rows of the movie years' weights. -/
theorem V_main_v10 : V m c main_v10 = extractStridedSlice S8x1 ![0, 0] (wideMyear m c) slices_S83x1_S8x1_0_0 := by
  show StableHlo.after (List.flatten [hostOps0]) (fun b => m (c, b)) (Proc.devRef .tc main_v10) = _
  simp only [hostOps0, List.flatten_cons, List.flatten_nil, List.append_nil]
  after_results
/-- When the launch starts, this buffer holds the first rows of the rating years' weights. -/
theorem V_main_v11 : V m c main_v11 = extractStridedSlice S8x1 ![0, 0] (wideRyear m c) slices_S11x1_S8x1_0_0 := by
  show StableHlo.after (List.flatten [hostOps0]) (fun b => m (c, b)) (Proc.devRef .tc main_v11) = _
  simp only [hostOps0, List.flatten_cons, List.flatten_nil, List.append_nil]
  after_results
/-- When the launch starts, this buffer holds the first rows of the pairs' weights. -/
theorem V_main_v12 : V m c main_v12 = extractStridedSlice S88x1 ![0, 0] (wideCross m c) slices_S664x1_S88x1_0_0 := by
  show StableHlo.after (List.flatten [hostOps0]) (fun b => m (c, b)) (Proc.devRef .tc main_v12) = _
  simp only [hostOps0, List.flatten_cons, List.flatten_nil, List.append_nil]
  after_results
/-- When the launch starts, this buffer holds the statistics' bias, given a unit axis. -/
theorem V_main_v13 : V m c main_v13 = shapeCast S1x1 (statB m c) shapeCasts_S1_S1x1 := by
  show StableHlo.after (List.flatten [hostOps0]) (fun b => m (c, b)) (Proc.devRef .tc main_v13) = _
  simp only [hostOps0, List.flatten_cons, List.flatten_nil, List.append_nil]
  after_results
  rfl
/-- When the launch starts, this buffer holds the first layer's bias, given a unit axis. -/
theorem V_main_v14 : V m c main_v14 = shapeCast S1x256 (bs0 m c) shapeCasts_S256_S1x256 := by
  show StableHlo.after (List.flatten [hostOps0]) (fun b => m (c, b)) (Proc.devRef .tc main_v14) = _
  simp only [hostOps0, List.flatten_cons, List.flatten_nil, List.append_nil]
  after_results
  rfl
/-- When the launch starts, this buffer holds the second layer's bias, given a unit axis. -/
theorem V_main_v15 : V m c main_v15 = shapeCast S1x128 (bs1 m c) shapeCasts_S128_S1x128 := by
  show StableHlo.after (List.flatten [hostOps0]) (fun b => m (c, b)) (Proc.devRef .tc main_v15) = _
  simp only [hostOps0, List.flatten_cons, List.flatten_nil, List.append_nil]
  after_results
  rfl
/-- When the launch starts, this buffer holds the last layer's bias, given a unit axis. -/
theorem V_main_v16 : V m c main_v16 = shapeCast S1x1 (bs2 m c) shapeCasts_S1_S1x1 := by
  show StableHlo.after (List.flatten [hostOps0]) (fun b => m (c, b)) (Proc.devRef .tc main_v16) = _
  simp only [hostOps0, List.flatten_cons, List.flatten_nil, List.append_nil]
  after_results
  rfl

variable (t : Fin cfg0.N)

/-- The row of the whole array that row `r` of block `t` is. -/
def rowOf (r : Fin 8192) : Fin 16384 := ⟨t.val * 8192 + r.val, by have := t.isLt; have : cfg0.N = 2 := N_0; omega⟩

/-- Each block, read at an index. -/
theorem blk0 (r : Fin 8192) (k : Fin 13) : iblk m c 0 t (ix2 r k) = xs m c (ix2 (rowOf t r) k) := by
  blk_ext! [iblk, V, idx0 t, rowOf]
/-- The staged block of the users' vectors, entry by entry. -/
theorem blk1 (r : Fin 8) (k : Fin 16) : iblk m c 1 t (ix2 r k) = userEmb m c (ix2 ⟨r.val, r.isLt.trans_le (by decide)⟩ k) := by
  have e : iblk m c 1 t (ix2 r k) = V m c main_v0 (ix2 r k) := by blk_ext! [iblk, idx1 t]
  rw [e, V_main_v0]
  pointwise
/-- The staged block of the movies' vectors, entry by entry. -/
theorem blk2 (r : Fin 8) (k : Fin 16) : iblk m c 2 t (ix2 r k) = movieEmb m c (ix2 ⟨r.val, r.isLt.trans_le (by decide)⟩ k) := by
  have e : iblk m c 2 t (ix2 r k) = V m c main_v1 (ix2 r k) := by blk_ext! [iblk, idx2 t]
  rw [e, V_main_v1]
  pointwise
/-- The staged block of the ages' vectors, entry by entry. -/
theorem blk3 (r : Fin 8) (k : Fin 8) : iblk m c 3 t (ix2 r k) = ageEmb m c (ix2 ⟨r.val, r.isLt.trans_le (by decide)⟩ k) := by
  have e : iblk m c 3 t (ix2 r k) = V m c main_v2 (ix2 r k) := by blk_ext! [iblk, idx3 t]
  rw [e, V_main_v2]
  pointwise
/-- The staged block of the occupations' vectors, entry by entry. -/
theorem blk4 (r : Fin 8) (k : Fin 16) : iblk m c 4 t (ix2 r k) = occEmb m c (ix2 ⟨r.val, r.isLt.trans_le (by decide)⟩ k) := by
  have e : iblk m c 4 t (ix2 r k) = V m c main_v3 (ix2 r k) := by blk_ext! [iblk, idx4 t]
  rw [e, V_main_v3]
  pointwise
/-- The staged block of the movie years' vectors, entry by entry. -/
theorem blk5 (r : Fin 8) (k : Fin 8) : iblk m c 5 t (ix2 r k) = myearEmb m c (ix2 ⟨r.val, r.isLt.trans_le (by decide)⟩ k) := by
  have e : iblk m c 5 t (ix2 r k) = V m c main_v4 (ix2 r k) := by blk_ext! [iblk, idx5 t]
  rw [e, V_main_v4]
  pointwise
/-- The staged block of the rating years' vectors, entry by entry. -/
theorem blk6 (r : Fin 8) (k : Fin 4) : iblk m c 6 t (ix2 r k) = ryearEmb m c (ix2 ⟨r.val, r.isLt.trans_le (by decide)⟩ k) := by
  have e : iblk m c 6 t (ix2 r k) = V m c main_v5 (ix2 r k) := by blk_ext! [iblk, idx6 t]
  rw [e, V_main_v5]
  pointwise
/-- The staged block of the users' weights, entry by entry. -/
theorem blk7 (r : Fin 8) : iblk m c 7 t (ix2 r (0 : Fin 1)) = wideUser m c (ix2 ⟨r.val, r.isLt.trans_le (by decide)⟩ (0 : Fin 1)) := by
  have e : iblk m c 7 t (ix2 r (0 : Fin 1)) = V m c main_v6 (ix2 r (0 : Fin 1)) := by blk_ext! [iblk, idx7 t]
  rw [e, V_main_v6]
  pointwise
/-- The staged block of the movies' weights, entry by entry. -/
theorem blk8 (r : Fin 8) : iblk m c 8 t (ix2 r (0 : Fin 1)) = wideMovie m c (ix2 ⟨r.val, r.isLt.trans_le (by decide)⟩ (0 : Fin 1)) := by
  have e : iblk m c 8 t (ix2 r (0 : Fin 1)) = V m c main_v7 (ix2 r (0 : Fin 1)) := by blk_ext! [iblk, idx8 t]
  rw [e, V_main_v7]
  pointwise
/-- The staged block of the genders' weights, entry by entry. -/
theorem blk9 (r : Fin 2) : iblk m c 9 t (ix2 r (0 : Fin 1)) = wideGender m c (ix2 r (0 : Fin 1)) := by
  blk_ext! [iblk, V, idx9 t]
/-- The staged block of the ages' weights, entry by entry. -/
theorem blk10 (r : Fin 8) : iblk m c 10 t (ix2 r (0 : Fin 1)) = wideAge m c (ix2 ⟨r.val, r.isLt.trans_le (by decide)⟩ (0 : Fin 1)) := by
  have e : iblk m c 10 t (ix2 r (0 : Fin 1)) = V m c main_v8 (ix2 r (0 : Fin 1)) := by blk_ext! [iblk, idx10 t]
  rw [e, V_main_v8]
  pointwise
/-- The staged block of the occupations' weights, entry by entry. -/
theorem blk11 (r : Fin 8) : iblk m c 11 t (ix2 r (0 : Fin 1)) = wideOcc m c (ix2 ⟨r.val, r.isLt.trans_le (by decide)⟩ (0 : Fin 1)) := by
  have e : iblk m c 11 t (ix2 r (0 : Fin 1)) = V m c main_v9 (ix2 r (0 : Fin 1)) := by blk_ext! [iblk, idx11 t]
  rw [e, V_main_v9]
  pointwise
/-- The staged block of the movie years' weights, entry by entry. -/
theorem blk12 (r : Fin 8) : iblk m c 12 t (ix2 r (0 : Fin 1)) = wideMyear m c (ix2 ⟨r.val, r.isLt.trans_le (by decide)⟩ (0 : Fin 1)) := by
  have e : iblk m c 12 t (ix2 r (0 : Fin 1)) = V m c main_v10 (ix2 r (0 : Fin 1)) := by blk_ext! [iblk, idx12 t]
  rw [e, V_main_v10]
  pointwise
/-- The staged block of the rating years' weights, entry by entry. -/
theorem blk13 (r : Fin 8) : iblk m c 13 t (ix2 r (0 : Fin 1)) = wideRyear m c (ix2 ⟨r.val, r.isLt.trans_le (by decide)⟩ (0 : Fin 1)) := by
  have e : iblk m c 13 t (ix2 r (0 : Fin 1)) = V m c main_v11 (ix2 r (0 : Fin 1)) := by blk_ext! [iblk, idx13 t]
  rw [e, V_main_v11]
  pointwise
/-- The staged block of the statistics' weights, entry by entry. -/
theorem blk14 (r : Fin 6) : iblk m c 14 t (ix2 r (0 : Fin 1)) = statW m c (ix2 r (0 : Fin 1)) := by
  blk_ext! [iblk, V, idx14 t]
/-- The staged block of the statistics' bias, entry by entry. -/
theorem blk15 : iblk m c 15 t (ix2 (0 : Fin 1) (0 : Fin 1)) = statB m c (ix1 (0 : Fin 1)) := by
  have e : iblk m c 15 t (ix2 (0 : Fin 1) (0 : Fin 1)) = V m c main_v13 (ix2 (0 : Fin 1) (0 : Fin 1)) := by blk_ext! [iblk, idx15 t]
  rw [e, V_main_v13]
  pointwise
/-- The staged block of the pairs' weights, entry by entry. -/
theorem blk16 (r : Fin 88) : iblk m c 16 t (ix2 r (0 : Fin 1)) = wideCross m c (ix2 ⟨r.val, r.isLt.trans_le (by decide)⟩ (0 : Fin 1)) := by
  have e : iblk m c 16 t (ix2 r (0 : Fin 1)) = V m c main_v12 (ix2 r (0 : Fin 1)) := by blk_ext! [iblk, idx16 t]
  rw [e, V_main_v12]
  pointwise
/-- The staged block of the first layer's weights, entry by entry. -/
theorem blk17 (r : Fin 75) (k : Fin 256) : iblk m c 17 t (ix2 r k) = wt0 m c (ix2 r k) := by
  blk_ext! [iblk, V, idx17 t]
/-- The staged block of the first layer's bias, entry by entry. -/
theorem blk18 (k : Fin 256) : iblk m c 18 t (ix2 (0 : Fin 1) k) = bs0 m c (ix1 k) := by
  have e : iblk m c 18 t (ix2 (0 : Fin 1) k) = V m c main_v14 (ix2 (0 : Fin 1) k) := by blk_ext! [iblk, idx18 t]
  rw [e, V_main_v14]
  pointwise
/-- The staged block of the second layer's weights, entry by entry. -/
theorem blk19 (r : Fin 256) (k : Fin 128) : iblk m c 19 t (ix2 r k) = wt1 m c (ix2 r k) := by
  blk_ext! [iblk, V, idx19 t]
/-- The staged block of the second layer's bias, entry by entry. -/
theorem blk20 (k : Fin 128) : iblk m c 20 t (ix2 (0 : Fin 1) k) = bs1 m c (ix1 k) := by
  have e : iblk m c 20 t (ix2 (0 : Fin 1) k) = V m c main_v15 (ix2 (0 : Fin 1) k) := by blk_ext! [iblk, idx20 t]
  rw [e, V_main_v15]
  pointwise
/-- The staged block of the last layer's weights, entry by entry. -/
theorem blk21 (r : Fin 128) : iblk m c 21 t (ix2 r (0 : Fin 1)) = wt2 m c (ix2 r (0 : Fin 1)) := by
  blk_ext! [iblk, V, idx21 t]
/-- The staged block of the last layer's bias, entry by entry. -/
theorem blk22 : iblk m c 22 t (ix2 (0 : Fin 1) (0 : Fin 1)) = bs2 m c (ix1 (0 : Fin 1)) := by
  have e : iblk m c 22 t (ix2 (0 : Fin 1) (0 : Fin 1)) = V m c main_v16 (ix2 (0 : Fin 1) (0 : Fin 1)) := by blk_ext! [iblk, idx22 t]
  rw [e, V_main_v16]
  pointwise

variable (R : Fin 16384)

/-- The first layer's input at a row and a unit, from the arguments. -/
def pre (k : Fin 256) : EReal :=
  (xs m c (ix2 R 0) * (∑ i, (userEmb m c (ix2 1 i) - userEmb m c (ix2 0 i)) * wt0 m c (ix2 ⟨i.val, by omega⟩ k)) + (xs m c (ix2 R 1) * (∑ i, (movieEmb m c (ix2 1 i) - movieEmb m c (ix2 0 i)) * wt0 m c (ix2 ⟨16 + i.val, by omega⟩ k))
        + (xs m c (ix2 R 2) * wt0 m c (ix2 68 k) + (xs m c (ix2 R 3) * (∑ i, (ageEmb m c (ix2 1 i) - ageEmb m c (ix2 0 i)) * wt0 m c (ix2 ⟨32 + i.val, by omega⟩ k))
        + (xs m c (ix2 R 4) * (∑ i, (occEmb m c (ix2 1 i) - occEmb m c (ix2 0 i)) * wt0 m c (ix2 ⟨40 + i.val, by omega⟩ k)) + (xs m c (ix2 R 5) * (∑ i, (myearEmb m c (ix2 1 i) - myearEmb m c (ix2 0 i)) * wt0 m c (ix2 ⟨56 + i.val, by omega⟩ k))
        + (xs m c (ix2 R 6) * (∑ i, (ryearEmb m c (ix2 1 i) - ryearEmb m c (ix2 0 i)) * wt0 m c (ix2 ⟨64 + i.val, by omega⟩ k)) + ∑ i : Fin 6, xs m c (ix2 R ⟨7 + i.val, by omega⟩) * wt0 m c (ix2 ⟨69 + i.val, by omega⟩ k))))))))
    + (bs0 m c (ix1 k) + (∑ i, userEmb m c (ix2 0 i) * wt0 m c (ix2 ⟨i.val, by omega⟩ k)) + (∑ i, movieEmb m c (ix2 0 i) * wt0 m c (ix2 ⟨16 + i.val, by omega⟩ k)) + (∑ i, ageEmb m c (ix2 0 i) * wt0 m c (ix2 ⟨32 + i.val, by omega⟩ k)) + (∑ i, occEmb m c (ix2 0 i) * wt0 m c (ix2 ⟨40 + i.val, by omega⟩ k)) + (∑ i, myearEmb m c (ix2 0 i) * wt0 m c (ix2 ⟨56 + i.val, by omega⟩ k)) + (∑ i, ryearEmb m c (ix2 0 i) * wt0 m c (ix2 ⟨64 + i.val, by omega⟩ k)))

/-- Column 0 of the wide product at a row, from the arguments. -/
def wideSum : EReal :=
  xs m c (ix2 R 0) * (wideUser m c (ix2 1 0) - wideUser m c (ix2 0 0)) + (xs m c (ix2 R 1) * (wideMovie m c (ix2 1 0) - wideMovie m c (ix2 0 0)) + (xs m c (ix2 R 2) * (wideGender m c (ix2 1 0) - wideGender m c (ix2 0 0)) + (xs m c (ix2 R 3) * (wideAge m c (ix2 1 0) - wideAge m c (ix2 0 0) + (wideCross m c (ix2 83 0) - wideCross m c (ix2 0 0)))
      + (xs m c (ix2 R 4) * (wideOcc m c (ix2 1 0) - wideOcc m c (ix2 0 0)) + (xs m c (ix2 R 5) * (wideMyear m c (ix2 1 0) - wideMyear m c (ix2 0 0) + (wideCross m c (ix2 1 0) - wideCross m c (ix2 0 0))) + (xs m c (ix2 R 6) * (wideRyear m c (ix2 1 0) - wideRyear m c (ix2 0 0))
      + ∑ s : Fin 6, xs m c (ix2 R ⟨7 + s.val, by omega⟩) * statW m c (ix2 s 0)))))))

/-- Column 0 of the wide bias, from the arguments. -/
def wideBias : EReal :=
  wideUser m c (ix2 0 0) + wideMovie m c (ix2 0 0) + wideGender m c (ix2 0 0) + wideAge m c (ix2 0 0) + wideOcc m c (ix2 0 0) + wideMyear m c (ix2 0 0) + wideRyear m c (ix2 0 0) + statB m c (ix1 0) + wideCross m c (ix2 0 0)

/-- The factor of the crossed ids' product, from the arguments. -/
def crossFactor : EReal :=
  wideCross m c (ix2 84 0) - wideCross m c (ix2 83 0) - wideCross m c (ix2 1 0) + wideCross m c (ix2 0 0)

/-- The result at a row, from the arguments. -/
def rowOut : EReal :=
  ∑ j : Fin 128, max (∑ k : Fin 256, max (pre m c R k) 0 * wt1 m c (ix2 k j) + bs1 m c (ix1 j)) 0 * (half * wt2 m c (ix2 j 0))
    + (((wideSum m c R + wideBias m c) * half + (0 + half * bs2 m c (ix1 0))) + max (xs m c (ix2 R 3) + xs m c (ix2 R 5) + -1) 0 * (half * crossFactor m c))

/-- A row of the block that point `t` stores. -/
theorem stored (r : Fin 8192) : (dats m 0 c).after 23 t (ix2 r (0 : Fin 1)) = rowOut m c (rowOf t r) := by
  rw [after0_23, block_apply]
  unfold rowOut pre wideSum wideBias crossFactor cell KernelBlock.pre KernelBlock.wideSum KernelBlock.wideBias KernelBlock.crossFactor
  simp only [blk0, blk1, blk2, blk3, blk4, blk5, blk6, blk7, blk8, blk9, blk10, blk11, blk12, blk13, blk14, blk15, blk16, blk17, blk18, blk19, blk20, blk21, blk22]
  rfl

end Cert.KernelBlocks
end
-- ==== Proof.Pre.lean ====
/-
  THE PRECONDITION, READ. Each of the predicate's arrays of bits, all ones, says of every element of a part of one
  argument that it is finite, or — the first — that it is 0 or 1.
-/
module

public import proofs.«01_k».proof.Defs
public import proofs.«01_k».proof.Proof.Math
public import proofs.«01_k».proof.Proof.KernelBlocks

@[expose] public section

set_option maxRecDepth 16384

noncomputable section

namespace Cert.Pre

open Idealize.ShloMosaic Idealize.ShloMosaic.TcCoe Idealize.SL.Sem Cert.Math
open Cert.KernelBlocks (xs userEmb movieEmb ageEmb occEmb myearEmb ryearEmb wideUser wideMovie wideGender wideAge wideOcc wideMyear wideRyear wideCross wt0)

/-- The shapes the predicate's operations take fit. -/
theorem facts : Cert.Pre_zero_one_ids.Facts := by
  constructor <;> decide

/-- A value whose size is below +∞ is a real number. -/
theorem real_of_lt {x : EReal} (h : Ideal.cmp .olt (max x (-x)) (Ideal.ofBits .f32 0x7F800000#32) = 1#1) : Real x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine ⟨x.toReal, (EReal.coe_toReal hlt.1.ne ?_).symm⟩
  rintro rfl
  simp at hlt

/-- An array whose test of finiteness is all ones is finite at each index. -/
theorem finite_at {s : Shape} {u : Shape} {d : Fin u.rank → Fin s.rank} (hb : u.BroadcastsInDim s d) (x : FVec Ideal s .f32)
    (H : cmpf .olt (Host.absf x) (broadcastInDim s d hb (constant u .f32 0x7F800000#32)) = fun _ => 1#1) (i : s.Idx) :
    Real (x i) :=
  real_of_lt (congrFun H i)

/-- A part of a matrix whose test of finiteness is all ones: the matrix is finite at each entry of that part. -/
theorem part {a b a' b' o : Nat} {u : Shape} {d : Fin u.rank → Fin 2} (hs : Shape.Slices ⟨2, ![a, b]⟩ ![o, 0] ⟨2, ![a', b']⟩)
    (hb : u.BroadcastsInDim ⟨2, ![a', b']⟩ d) (x : FVec Ideal ⟨2, ![a, b]⟩ .f32)
    (H : cmpf .olt (Host.absf (extractStridedSlice ⟨2, ![a', b']⟩ ![o, 0] x hs))
      (broadcastInDim ⟨2, ![a', b']⟩ d hb (constant u .f32 0x7F800000#32)) = fun _ => 1#1)
    (r : Fin a') (j : Fin b') (R : Fin a) (J : Fin b) (hR : R.val = o + r.val) (hJ : J.val = j.val) : Real (x (ix2 R J)) := by
  have h := finite_at hb _ H (ix2 r j)
  have e : extractStridedSlice ⟨2, ![a', b']⟩ ![o, 0] x hs (ix2 r j) = x (ix2 R J) := by
    pointwise
    refine congrArg x (funext fun k => Fin.ext ?_)
    fin_cases k
    · exact hR.symm
    · exact (zero_add _).trans hJ.symm
  rwa [e] at h

/-- A value that the two equality tests accept is 0 or 1. -/
theorem zero_or_one {x : EReal} (h : IntOp.ori (Ideal.cmp .oeq x (Ideal.ofBits .f32 0x00000000#32))
    (Ideal.cmp .oeq x (Ideal.ofBits .f32 0x3F800000#32)) = 1#1) : x = 0 ∨ x = 1 := by
  rw [Ideal.ofBits_zero_f32, Ideal.ofBits_one_f32] at h
  by_contra hn
  push Not at hn
  simp [Ideal.cmp, hn.1, hn.2, IntOp.ori] at h

variable {m : (ℓ : Loc KernelIdeal.nD KernelIdeal.τ KernelIdeal.sig) → Buf (Elt Ideal) ℓ}

/-- Every id is 0 or 1. -/
theorem ids (h : Cert.Pre_KernelIdeal_zero_one_ids (hPre_zero_one_ids := facts) m) (c : Dev KernelIdeal.nD)
    (r : Fin 16384) (k : Fin 13) (hk : k.val < 7) : xs m c (ix2 r k) = 0 ∨ xs m c (ix2 r k) = 1 := by
  have H := congrFun (h c).1 (ix2 r (⟨k.val, hk⟩ : Fin 7))
  have e : extractStridedSlice Pre_zero_one_ids.S16384x7 ![0, 0] (xs m c) facts.slices_S16384x13_S16384x7_0_0
      (ix2 r (⟨k.val, hk⟩ : Fin 7)) = xs m c (ix2 r k) := by
    pointwise
  exact zero_or_one (x := xs m c (ix2 r k)) (by rw [← e]; exact H)

/-- The rows 0 and 1 of the users' vectors are finite. -/
theorem user (h : Cert.Pre_KernelIdeal_zero_one_ids (hPre_zero_one_ids := facts) m) (c : Dev KernelIdeal.nD) (j : Fin 16) :
    Real (userEmb m c (ix2 0 j)) ∧ Real (userEmb m c (ix2 1 j)) :=
  ⟨part _ _ _ (h c).2.1 0 j 0 j rfl rfl, part _ _ _ (h c).2.1 1 j 1 j rfl rfl⟩

/-- The rows 0 and 1 of the movies' vectors are finite. -/
theorem movie (h : Cert.Pre_KernelIdeal_zero_one_ids (hPre_zero_one_ids := facts) m) (c : Dev KernelIdeal.nD) (j : Fin 16) :
    Real (movieEmb m c (ix2 0 j)) ∧ Real (movieEmb m c (ix2 1 j)) :=
  ⟨part _ _ _ (h c).2.2.1 0 j 0 j rfl rfl, part _ _ _ (h c).2.2.1 1 j 1 j rfl rfl⟩

/-- The rows 0 and 1 of the ages' vectors are finite. -/
theorem age (h : Cert.Pre_KernelIdeal_zero_one_ids (hPre_zero_one_ids := facts) m) (c : Dev KernelIdeal.nD) (j : Fin 8) :
    Real (ageEmb m c (ix2 0 j)) ∧ Real (ageEmb m c (ix2 1 j)) :=
  ⟨part _ _ _ (h c).2.2.2.1 0 j 0 j rfl rfl, part _ _ _ (h c).2.2.2.1 1 j 1 j rfl rfl⟩

/-- The rows 0 and 1 of the occupations' vectors are finite. -/
theorem occ (h : Cert.Pre_KernelIdeal_zero_one_ids (hPre_zero_one_ids := facts) m) (c : Dev KernelIdeal.nD) (j : Fin 16) :
    Real (occEmb m c (ix2 0 j)) ∧ Real (occEmb m c (ix2 1 j)) :=
  ⟨part _ _ _ (h c).2.2.2.2.1 0 j 0 j rfl rfl, part _ _ _ (h c).2.2.2.2.1 1 j 1 j rfl rfl⟩

/-- The rows 0 and 1 of the movie years' vectors are finite. -/
theorem myear (h : Cert.Pre_KernelIdeal_zero_one_ids (hPre_zero_one_ids := facts) m) (c : Dev KernelIdeal.nD) (j : Fin 8) :
    Real (myearEmb m c (ix2 0 j)) ∧ Real (myearEmb m c (ix2 1 j)) :=
  ⟨part _ _ _ (h c).2.2.2.2.2.1 0 j 0 j rfl rfl, part _ _ _ (h c).2.2.2.2.2.1 1 j 1 j rfl rfl⟩

/-- The rows 0 and 1 of the rating years' vectors are finite. -/
theorem ryear (h : Cert.Pre_KernelIdeal_zero_one_ids (hPre_zero_one_ids := facts) m) (c : Dev KernelIdeal.nD) (j : Fin 4) :
    Real (ryearEmb m c (ix2 0 j)) ∧ Real (ryearEmb m c (ix2 1 j)) :=
  ⟨part _ _ _ (h c).2.2.2.2.2.2.1 0 j 0 j rfl rfl, part _ _ _ (h c).2.2.2.2.2.2.1 1 j 1 j rfl rfl⟩

/-- The rows 0 and 1 of the users' weights are finite. -/
theorem wUser (h : Cert.Pre_KernelIdeal_zero_one_ids (hPre_zero_one_ids := facts) m) (c : Dev KernelIdeal.nD) (j : Fin 1) :
    Real (wideUser m c (ix2 0 j)) ∧ Real (wideUser m c (ix2 1 j)) :=
  ⟨part _ _ _ (h c).2.2.2.2.2.2.2.1 0 j 0 j rfl rfl, part _ _ _ (h c).2.2.2.2.2.2.2.1 1 j 1 j rfl rfl⟩

/-- The rows 0 and 1 of the movies' weights are finite. -/
theorem wMovie (h : Cert.Pre_KernelIdeal_zero_one_ids (hPre_zero_one_ids := facts) m) (c : Dev KernelIdeal.nD) (j : Fin 1) :
    Real (wideMovie m c (ix2 0 j)) ∧ Real (wideMovie m c (ix2 1 j)) :=
  ⟨part _ _ _ (h c).2.2.2.2.2.2.2.2.1 0 j 0 j rfl rfl, part _ _ _ (h c).2.2.2.2.2.2.2.2.1 1 j 1 j rfl rfl⟩

/-- The rows 0 and 1 of the ages' weights are finite. -/
theorem wAge (h : Cert.Pre_KernelIdeal_zero_one_ids (hPre_zero_one_ids := facts) m) (c : Dev KernelIdeal.nD) (j : Fin 1) :
    Real (wideAge m c (ix2 0 j)) ∧ Real (wideAge m c (ix2 1 j)) :=
  ⟨part _ _ _ (h c).2.2.2.2.2.2.2.2.2.2.1 0 j 0 j rfl rfl, part _ _ _ (h c).2.2.2.2.2.2.2.2.2.2.1 1 j 1 j rfl rfl⟩

/-- The rows 0 and 1 of the occupations' weights are finite. -/
theorem wOcc (h : Cert.Pre_KernelIdeal_zero_one_ids (hPre_zero_one_ids := facts) m) (c : Dev KernelIdeal.nD) (j : Fin 1) :
    Real (wideOcc m c (ix2 0 j)) ∧ Real (wideOcc m c (ix2 1 j)) :=
  ⟨part _ _ _ (h c).2.2.2.2.2.2.2.2.2.2.2.1 0 j 0 j rfl rfl, part _ _ _ (h c).2.2.2.2.2.2.2.2.2.2.2.1 1 j 1 j rfl rfl⟩

/-- The rows 0 and 1 of the movie years' weights are finite. -/
theorem wMyear (h : Cert.Pre_KernelIdeal_zero_one_ids (hPre_zero_one_ids := facts) m) (c : Dev KernelIdeal.nD) (j : Fin 1) :
    Real (wideMyear m c (ix2 0 j)) ∧ Real (wideMyear m c (ix2 1 j)) :=
  ⟨part _ _ _ (h c).2.2.2.2.2.2.2.2.2.2.2.2.1 0 j 0 j rfl rfl, part _ _ _ (h c).2.2.2.2.2.2.2.2.2.2.2.2.1 1 j 1 j rfl rfl⟩

/-- The rows 0 and 1 of the rating years' weights are finite. -/
theorem wRyear (h : Cert.Pre_KernelIdeal_zero_one_ids (hPre_zero_one_ids := facts) m) (c : Dev KernelIdeal.nD) (j : Fin 1) :
    Real (wideRyear m c (ix2 0 j)) ∧ Real (wideRyear m c (ix2 1 j)) :=
  ⟨part _ _ _ (h c).2.2.2.2.2.2.2.2.2.2.2.2.2.1 0 j 0 j rfl rfl, part _ _ _ (h c).2.2.2.2.2.2.2.2.2.2.2.2.2.1 1 j 1 j rfl rfl⟩

/-- Both of the genders' weights are finite. -/
theorem wGender (h : Cert.Pre_KernelIdeal_zero_one_ids (hPre_zero_one_ids := facts) m) (c : Dev KernelIdeal.nD) (i : Fin 2) (j : Fin 1) :
    Real (wideGender m c (ix2 i j)) :=
  finite_at _ _ (h c).2.2.2.2.2.2.2.2.2.1 (ix2 i j)

/-- The pairs' weights at the rows 0, 1, 83 and 84 are finite. -/
theorem wCross (h : Cert.Pre_KernelIdeal_zero_one_ids (hPre_zero_one_ids := facts) m) (c : Dev KernelIdeal.nD) (j : Fin 1) :
    (Real (wideCross m c (ix2 0 j)) ∧ Real (wideCross m c (ix2 1 j)))
      ∧ (Real (wideCross m c (ix2 83 j)) ∧ Real (wideCross m c (ix2 84 j))) :=
  ⟨⟨part _ _ _ (h c).2.2.2.2.2.2.2.2.2.2.2.2.2.2.1 0 j 0 j rfl rfl, part _ _ _ (h c).2.2.2.2.2.2.2.2.2.2.2.2.2.2.1 1 j 1 j rfl rfl⟩,
    ⟨part _ _ _ (h c).2.2.2.2.2.2.2.2.2.2.2.2.2.2.2.1 0 j 83 j rfl rfl, part _ _ _ (h c).2.2.2.2.2.2.2.2.2.2.2.2.2.2.2.1 1 j 84 j rfl rfl⟩⟩

/-- The first 68 rows of the first layer's weights are finite. -/
theorem weights (h : Cert.Pre_KernelIdeal_zero_one_ids (hPre_zero_one_ids := facts) m) (c : Dev KernelIdeal.nD) (i : Fin 75)
    (hi : i.val < 68) (j : Fin 256) : Real (wt0 m c (ix2 i j)) :=
  part _ _ _ (h c).2.2.2.2.2.2.2.2.2.2.2.2.2.2.2.2 ⟨i.val, hi⟩ j i j (zero_add _).symm rfl

end Cert.Pre
end
-- ==== Proof.KernelValue.lean ====
/-
  THE KERNEL'S RESULT. The two stored blocks tile the one-column array, so the array holds `rowOut` at each row; the host
  then drops the unit axis.
-/
module

public import proofs.«01_k».proof.Proof.KernelBlocks

@[expose] public section

set_option maxRecDepth 16384

noncomputable section

namespace Cert.KernelValue

open Idealize.ShloMosaic Idealize.ShloMosaic.TcCoe Idealize.SL.Sem Cert.KernelIdeal Cert.KernelIdeal.Gen Cert.KernelBlocks

variable (m : (ℓ : Loc nD τ sig) → Buf (Elt Ideal) ℓ) (ρ : Dev nD → PrngReg) (c : Dev nD)

/-- The one-column array of the rows' results. -/
def column : FVec Ideal S16384x1 .f32 := fun i => rowOut m c (i 0)

/-- The result: the rows' results. -/
def result : FVec Ideal S16384 .f32 := fun i => rowOut m c (i 0)

/-- After the launch the output array holds the column. -/
theorem final : (dats m 0 c).arrAt 23 cfg0.N = column m c := by
  refine (dats m 0 c).arrAt_eq_of_covers 23 _ (by decide +kernel) fun t hf y => ?_
  blk_simp
  obtain ⟨r, e⟩ : ∃ r : Fin 8192, y = ix2 r (0 : Fin 1) :=
    ⟨y 0, funext fun a => by fin_cases a; exacts [rfl, Subsingleton.elim (α := Fin 1) _ _]⟩
  rw [e]
  refine (stored m c t r).trans (congrArg (rowOut m c) (Fin.ext ?_))
  show t.val * 8192 + r.val = _
  blk_simp [idx23 t]

/-- The host's last line, on the column. -/
theorem tail : Pipeline.afterTail₀ cfgs (dats m) 0 (V0 m) [hostOps1] c main_v18 = result m c := by
  unfold Pipeline.afterTail₀
  simp only [hostOps1, List.flatten_cons, List.flatten_nil, List.append_nil]
  after_results
  rw [show (cfgs 0).N = cfg0.N from rfl]
  have e : Pipeline.withArrays (cfgs 0).spec c (V0 m c) (fun w => (dats m 0 c).arrAt w cfg0.N)
      (Proc.tc.devRef main_v17) = column m c :=
    (Pipeline.withArrays_arr (cfgs 0).spec (by decide) c _ _ 23).trans (final m c)
  funext i
  rw [e]
  have hi : i = ix1 (i 0) := funext fun a => by fin_cases a; rfl
  show shapeCast S16384 (column m c) shapeCasts_S16384x1_S16384 i = _
  rw [hi]
  pointwise
  rfl

/-- The kernel's run: its result holds the rows' results, and its arguments end as they began. -/
theorem run : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  θ_run_mono (θ_run_and (run_main m ρ) (unchanged m ρ)) fun r hr c =>
    ⟨((hr.1 c).2 main_v18 (Pipeline.mem_restRefs_of main_v18 (by decide) (by decide))).trans (tail m c), hr.2 c⟩

end Cert.KernelValue
end
-- ==== Proof.Take.lean ====
/-
  LOOKING UP A TABLE ROW, as the reference prints it: the row numbers are wrapped (a negative number counts from the
  end), tested against the table's extent, gathered, and replaced by NaN where the test fails. At row numbers that the
  table has, all of this is the table's entry. Also here: the row number of an id that is 0 or 1.
-/
module

public import Idealize.ShloMosaic.Lib.Pointwise
public import Idealize.ShloMosaic.Lib.ReduceAll
public import Idealize.ShloMosaic.Lib.Routing.Ops

@[expose] public section

set_option maxRecDepth 16384

noncomputable section

namespace Cert.Take

open Idealize.ShloMosaic
open Idealize.ShloMosaic.Routing (shape1 shape2)

/-- The row number of an id: 0 at 0, 1 at anything else. -/
def idNat (a : EReal) : ℕ := if a = 0 then 0 else 1

/-- A row number is 0 or 1. -/
theorem idNat_lt (a : EReal) : idNat a < 2 := by unfold idNat; split <;> omega

/-- An id that is 0 or 1, converted to an integer word, is the word of its row number. -/
theorem fptosi_id {a : EReal} (h : a = 0 ∨ a = 1) : Ideal.fptosi 32 a = BitVec.ofNat 32 (idNat a) := by
  rcases h with rfl | rfl
  · rw [← EReal.coe_zero, Ideal.fptosi, Ideal.toIntClamped_coe]; simp [idNat]
  · rw [← EReal.coe_one, Ideal.fptosi, Ideal.toIntClamped_coe]; simp [idNat]

/-- A word below 2³¹ is left alone by the wrap of negative row numbers. -/
theorem wrap_word (n : ℕ) (hn : n < 2 ^ 31) (k : BitVec 32) :
    Scalar.select (IntOp.cmpi .slt (BitVec.ofNat 32 n) 0#32) (IntOp.addi (BitVec.ofNat 32 n) k) (BitVec.ofNat 32 n)
      = BitVec.ofNat 32 n := by
  rw [Scalar.select, if_neg]
  intro h
  have h2 : (BitVec.ofNat 32 n).slt 0#32 = true := by
    have h1 : BitVec.ofBool ((BitVec.ofNat 32 n).slt 0#32) = 1#1 := h
    exact (StableHlo.Predicate.ofBool_eq_one_iff _).1 h1
  rw [BitVec.slt_iff_toInt_lt, StableHlo.Predicate.toInt_ofNat_small n hn] at h2
  have h3 : ((n : ℕ) : ℤ) < 0 := h2
  omega

/-- The range test of a row number `n ≤ u`. -/
theorem range_word (n u : ℕ) (hn : n ≤ u) (hu : u < 2 ^ 31) :
    IntOp.andi (IntOp.cmpi .sge (BitVec.ofNat 32 n) 0#32) (IntOp.cmpi .sle (BitVec.ofNat 32 n) (BitVec.ofNat 32 u)) = 1#1 := by
  have h1 : IntOp.cmpi .sge (BitVec.ofNat 32 n) 0#32 = 1#1 := by
    have : (0#32).sle (BitVec.ofNat 32 n) = true := by
      rw [BitVec.sle_iff_toInt_le, StableHlo.Predicate.toInt_ofNat_small n (by omega)]; simp
    simp [IntOp.cmpi, this]
  have h2 : IntOp.cmpi .sle (BitVec.ofNat 32 n) (BitVec.ofNat 32 u) = 1#1 := by
    have : (BitVec.ofNat 32 n).sle (BitVec.ofNat 32 u) = true := by
      rw [BitVec.sle_iff_toInt_le, StableHlo.Predicate.toInt_ofNat_small n (by omega),
        StableHlo.Predicate.toInt_ofNat_small u hu]; exact_mod_cast hn
    simp [IntOp.cmpi, this]
  rw [h1, h2]; rfl

variable {α : Type} {B N C : Nat}

/-- The printed lookup at row `r`, column `c`, when every row's number is a row of the table: the table's entry. -/
theorem take_apply (u : ℕ) (hu : u + 1 = N) (hN : N < 2 ^ 31)
    (d : GatherDims (shape2 N C) (shape2 B 1) (shape2 B C)) (hoff : d.offsetDims = [1])
    (hcoll : d.collapsedSliceDims = [0]) (hob : d.operandBatchingDims = []) (hsim : d.startIndexMap = [0])
    (hivd : d.indexVectorDim = 1) (tbl : (shape2 N C).Idx → α) (nan : (shape2 B C).Idx → α) (idx : IVec (shape2 B 1) 32)
    (hb : (shape1 B).BroadcastsInDim (shape2 B C) (![0] : Fin 1 → Fin 2))
    (hb0 : (⟨0, ![]⟩ : Shape).BroadcastsInDim (shape2 B 1) (![] : Fin 0 → Fin 2))
    (hb1 : (shape2 1 1).BroadcastsInDim (shape2 B 1) (![0, 1] : Fin 2 → Fin 2))
    (hb2 : (shape1 1).BroadcastsInDim (shape2 1 1) (![1] : Fin 1 → Fin 2))
    (hr : (shape2 B 1).ReducesTo [1] (shape1 B)) (hs : 0 < (⟨0, ![]⟩ : Shape).numel)
    (id : Fin B → Fin N) (hid : ∀ r, idx (ix2 r (0 : Fin 1)) = BitVec.ofNat 32 (id r).val) (r : Fin B) (c : Fin C) :
    select (broadcastInDim (shape2 B C) ![0] hb (Host.reduce IntOp.andi
        (andi (cmpi .sge idx (broadcastInDim (shape2 B 1) ![] hb0 (constantI ⟨0, ![]⟩ 32 0#32)))
          (cmpi .sle idx (broadcastInDim (shape2 B 1) ![0, 1] hb1 (broadcastInDim (shape2 1 1) ![1] hb2
            (constantI (shape1 1) 32 (BitVec.ofNat 32 u)))))) (constantI ⟨0, ![]⟩ 1 1#1) hr hs))
      (Host.gather d tbl idx) nan (ix2 r c) = tbl (ix2 (id r) c) := by
  rw [ValueIdx.select_apply]
  have hm : ∀ j, Host.reduce IntOp.andi
        (andi (cmpi .sge idx (broadcastInDim (shape2 B 1) ![] hb0 (constantI ⟨0, ![]⟩ 32 0#32)))
          (cmpi .sle idx (broadcastInDim (shape2 B 1) ![0, 1] hb1 (broadcastInDim (shape2 1 1) ![1] hb2
            (constantI (shape1 1) 32 (BitVec.ofNat 32 u)))))) (constantI ⟨0, ![]⟩ 1 1#1) hr hs j = 1#1 := fun j => by
    refine Host.reduce_andi_one _ _ _ _ _ rfl fun i => ?_
    obtain ⟨a, e⟩ : ∃ a : Fin B, i = ix2 a (0 : Fin 1) := by
      refine ⟨i 0, (eq_ix2 i).trans (congrArg (ix2 (i 0)) (Fin.ext ?_))⟩
      have : (i 1 : Nat) < 1 := (i 1).isLt
      show (i 1 : Nat) = 0
      omega
    rw [e]
    show IntOp.andi (IntOp.cmpi .sge (idx (ix2 a (0 : Fin 1))) 0#32)
      (IntOp.cmpi .sle (idx (ix2 a (0 : Fin 1))) (BitVec.ofNat 32 u)) = 1#1
    rw [hid a]
    exact range_word _ _ (by have := (id a).isLt; omega) (by omega)
  have hm2 : (broadcastInDim (shape2 B C) ![0] hb (Host.reduce IntOp.andi
        (andi (cmpi .sge idx (broadcastInDim (shape2 B 1) ![] hb0 (constantI ⟨0, ![]⟩ 32 0#32)))
          (cmpi .sle idx (broadcastInDim (shape2 B 1) ![0, 1] hb1 (broadcastInDim (shape2 1 1) ![1] hb2
            (constantI (shape1 1) 32 (BitVec.ofNat 32 u)))))) (constantI ⟨0, ![]⟩ 1 1#1) hr hs)) (ix2 r c) = 1#1 := hm _
  rw [hm2]
  show Host.gather d tbl idx (ix2 r c) = _
  rw [ix2_eq_valueIdx, ix2_eq_valueIdx]
  exact Routing.gather_row d hoff hcoll hob hsim hivd tbl idx r c (id r) (by rw [← ix2_eq_valueIdx]; exact hid r) hN

/-- The printed lookup in a table of one column, its column dropped, at row `r`: the table's entry. -/
theorem take_col_apply (u : ℕ) (hu : u + 1 = N) (hN : N < 2 ^ 31)
    (d : GatherDims (shape2 N 1) (shape2 B 1) (shape2 B 1)) (hoff : d.offsetDims = [1])
    (hcoll : d.collapsedSliceDims = [0]) (hob : d.operandBatchingDims = []) (hsim : d.startIndexMap = [0])
    (hivd : d.indexVectorDim = 1) (tbl : (shape2 N 1).Idx → α) (nan : (shape2 B 1).Idx → α) (idx : IVec (shape2 B 1) 32)
    (hb : (shape1 B).BroadcastsInDim (shape2 B 1) (![0] : Fin 1 → Fin 2))
    (hb0 : (⟨0, ![]⟩ : Shape).BroadcastsInDim (shape2 B 1) (![] : Fin 0 → Fin 2))
    (hb1 : (shape2 1 1).BroadcastsInDim (shape2 B 1) (![0, 1] : Fin 2 → Fin 2))
    (hb2 : (shape1 1).BroadcastsInDim (shape2 1 1) (![1] : Fin 1 → Fin 2))
    (hr : (shape2 B 1).ReducesTo [1] (shape1 B)) (hs : 0 < (⟨0, ![]⟩ : Shape).numel)
    (hc : (shape2 B 1).ShapeCasts (shape1 B))
    (id : Fin B → Fin N) (hid : ∀ r, idx (ix2 r (0 : Fin 1)) = BitVec.ofNat 32 (id r).val) (r : Fin B) :
    shapeCast (shape1 B) (select (broadcastInDim (shape2 B 1) ![0] hb (Host.reduce IntOp.andi
        (andi (cmpi .sge idx (broadcastInDim (shape2 B 1) ![] hb0 (constantI ⟨0, ![]⟩ 32 0#32)))
          (cmpi .sle idx (broadcastInDim (shape2 B 1) ![0, 1] hb1 (broadcastInDim (shape2 1 1) ![1] hb2
            (constantI (shape1 1) 32 (BitVec.ofNat 32 u)))))) (constantI ⟨0, ![]⟩ 1 1#1) hr hs))
      (Host.gather d tbl idx) nan) hc (ix1 r) = tbl (ix2 (id r) (0 : Fin 1)) := by
  rw [ix1_eq_valueIdx, Routing.cast21 _ hc r (0 : Fin 1) r (by show r.val = r.val * 1 + 0; omega), ← ix2_eq_valueIdx]
  exact take_apply u hu hN d hoff hcoll hob hsim hivd tbl nan idx hb hb0 hb1 hb2 hr hs id hid r 0

/-- The printed wrap of negative row numbers, made a column, at row `r`, where the number is a small natural. -/
theorem wrap_apply (v : IVec (shape1 16384) 32) (k : BitVec 32) (hb : (shape1 16384).BroadcastsInDim (shape2 16384 1) (![0] : Fin 1 → Fin 2))
    (hb0 hb0' : (⟨0, ![]⟩ : Shape).BroadcastsInDim (shape1 16384) (![] : Fin 0 → Fin 1)) (r : Fin 16384) (n : ℕ) (hn : n < 2 ^ 31)
    (h : v (ix1 r) = BitVec.ofNat 32 n) :
    broadcastInDim (shape2 16384 1) ![0] hb (select (cmpi .slt v (broadcastInDim (shape1 16384) ![] hb0 (constantI ⟨0, ![]⟩ 32 0#32)))
      (addi v (broadcastInDim (shape1 16384) ![] hb0' (constantI ⟨0, ![]⟩ 32 k))) v) (ix2 r (0 : Fin 1)) = BitVec.ofNat 32 n := by
  pointwise
  rw [h]
  exact wrap_word n hn k

end Cert.Take

end
-- ==== Proof.RefRow.lean ====
/-
  THE REFERENCE at a row. Each id, 0 or 1, becomes an integer row number that no wrap changes and that passes the range
  test, so each lookup reads that row of its table; the 75 inputs of the first layer are six looked-up rows, the gender id
  and the six statistics; the result is the average of the wide and the deep part.
-/
module

public import proofs.«01_k».proof.Proof.Gen.ReferenceIdeal.Run
public import proofs.«01_k».proof.Proof.Take

@[expose] public section

set_option maxRecDepth 16384

noncomputable section

namespace Cert.RefRow

open Idealize.ShloMosaic Cert.ReferenceIdeal Cert.ReferenceIdeal.Gen Cert.ReferenceIdeal.Value Cert.Take

variable (V : Valuation τ sig (Elt Ideal))

/-- The ids and statistics, as the reference is given them. -/
abbrev xs : Vec Ideal S16384x13 .f32 := V (Proc.devRef .tc main_arg0)

/-- The other arguments, by name: the embedding tables, the wide tables and weights, the layers' weights and biases. -/
abbrev userEmb : FVec Ideal S1000001x16 .f32 := V (Proc.devRef .tc main_arg1)
/-- The movies' vectors, among the arguments. -/
abbrev movieEmb : FVec Ideal S100001x16 .f32 := V (Proc.devRef .tc main_arg2)
/-- The ages' vectors, among the arguments. -/
abbrev ageEmb : FVec Ideal S8x8 .f32 := V (Proc.devRef .tc main_arg3)
/-- The occupations' vectors, among the arguments. -/
abbrev occEmb : FVec Ideal S22x16 .f32 := V (Proc.devRef .tc main_arg4)
/-- The movie years' vectors, among the arguments. -/
abbrev myearEmb : FVec Ideal S83x8 .f32 := V (Proc.devRef .tc main_arg5)
/-- The rating years' vectors, among the arguments. -/
abbrev ryearEmb : FVec Ideal S11x4 .f32 := V (Proc.devRef .tc main_arg6)
/-- The users' weights, among the arguments. -/
abbrev wideUser : FVec Ideal S1000001x1 .f32 := V (Proc.devRef .tc main_arg7)
/-- The movies' weights, among the arguments. -/
abbrev wideMovie : FVec Ideal S100001x1 .f32 := V (Proc.devRef .tc main_arg8)
/-- The genders' weights, among the arguments. -/
abbrev wideGender : FVec Ideal S2x1 .f32 := V (Proc.devRef .tc main_arg9)
/-- The ages' weights, among the arguments. -/
abbrev wideAge : FVec Ideal S8x1 .f32 := V (Proc.devRef .tc main_arg10)
/-- The occupations' weights, among the arguments. -/
abbrev wideOcc : FVec Ideal S22x1 .f32 := V (Proc.devRef .tc main_arg11)
/-- The movie years' weights, among the arguments. -/
abbrev wideMyear : FVec Ideal S83x1 .f32 := V (Proc.devRef .tc main_arg12)
/-- The rating years' weights, among the arguments. -/
abbrev wideRyear : FVec Ideal S11x1 .f32 := V (Proc.devRef .tc main_arg13)
/-- The statistics' weights, among the arguments. -/
abbrev statW : FVec Ideal S6x1 .f32 := V (Proc.devRef .tc main_arg14)
/-- The statistics' bias, among the arguments. -/
abbrev statB : FVec Ideal S1 .f32 := V (Proc.devRef .tc main_arg15)
/-- The pairs' weights, among the arguments. -/
abbrev wideCross : FVec Ideal S664x1 .f32 := V (Proc.devRef .tc main_arg16)
/-- The first layer's weights, among the arguments. -/
abbrev wt0 : FVec Ideal S75x256 .f32 := V (Proc.devRef .tc main_arg17)
/-- The first layer's bias, among the arguments. -/
abbrev bs0 : FVec Ideal S256 .f32 := V (Proc.devRef .tc main_arg18)
/-- The second layer's weights, among the arguments. -/
abbrev wt1 : FVec Ideal S256x128 .f32 := V (Proc.devRef .tc main_arg19)
/-- The second layer's bias, among the arguments. -/
abbrev bs1 : FVec Ideal S128 .f32 := V (Proc.devRef .tc main_arg20)
/-- The last layer's weights, among the arguments. -/
abbrev wt2 : FVec Ideal S128x1 .f32 := V (Proc.devRef .tc main_arg21)
/-- The last layer's bias, among the arguments. -/
abbrev bs2 : FVec Ideal S1 .f32 := V (Proc.devRef .tc main_arg22)

/-- The ids of the seven categorical columns are 0 or 1. -/
def Ids : Prop := ∀ (r : Fin 16384) (k : Fin 13), k.val < 7 → xs V (ix2 r k) = 0 ∨ xs V (ix2 r k) = 1

/-- The row number of the id in column `k` of row `r`, in a table of `N` rows. -/
def row (N : ℕ) (hN : 2 ≤ N) (k : Fin 13) (r : Fin 16384) : Fin N := ⟨idNat (xs V (ix2 r k)), (idNat_lt _).trans_le hN⟩

variable {V}
variable (h : Ids V) (r : Fin 16384)
include h

/-- The integer id of column 0 is the row number of that column's value. -/
theorem id0 : res_main_v2 V (ix1 r) = BitVec.ofNat 32 (idNat (xs V (ix2 r 0))) := by
  rw [← fptosi_id (h r 0 (by decide))]; pointwise [res_main_v2]; rfl
/-- The integer id of column 1 is the row number of that column's value. -/
theorem id1 : res_main_v5 V (ix1 r) = BitVec.ofNat 32 (idNat (xs V (ix2 r 1))) := by
  rw [← fptosi_id (h r 1 (by decide))]; pointwise [res_main_v5]; rfl
/-- The integer id of column 2 is the row number of that column's value. -/
theorem id2 : res_main_v8 V (ix1 r) = BitVec.ofNat 32 (idNat (xs V (ix2 r 2))) := by
  rw [← fptosi_id (h r 2 (by decide))]; pointwise [res_main_v8]; rfl
/-- The integer id of column 3 is the row number of that column's value. -/
theorem id3 : res_main_v12 V (ix1 r) = BitVec.ofNat 32 (idNat (xs V (ix2 r 3))) := by
  rw [← fptosi_id (h r 3 (by decide))]; pointwise [res_main_v12]; rfl
/-- The integer id of column 4 is the row number of that column's value. -/
theorem id4 : res_main_v15 V (ix1 r) = BitVec.ofNat 32 (idNat (xs V (ix2 r 4))) := by
  rw [← fptosi_id (h r 4 (by decide))]; pointwise [res_main_v15]; rfl
/-- The integer id of column 5 is the row number of that column's value. -/
theorem id5 : res_main_v18 V (ix1 r) = BitVec.ofNat 32 (idNat (xs V (ix2 r 5))) := by
  rw [← fptosi_id (h r 5 (by decide))]; pointwise [res_main_v18]; rfl
/-- The integer id of column 6 is the row number of that column's value. -/
theorem id6 : res_main_v21 V (ix1 r) = BitVec.ofNat 32 (idNat (xs V (ix2 r 6))) := by
  rw [← fptosi_id (h r 6 (by decide))]; pointwise [res_main_v21]; rfl

/-- The wrapped row number of lookup 0 (users, vectors) is the id's. -/
theorem call0 : res_main_call0_v5 V (ix2 r (0 : Fin 1)) = BitVec.ofNat 32 (row V 1000001 (by decide) 0 r).val :=
  wrap_apply _ _ _ _ _ r _ ((idNat_lt _).trans (by decide)) (id0 h r)
/-- The wrapped row number of lookup 1 (movies, vectors) is the id's. -/
theorem call1 : res_main_call1_v5 V (ix2 r (0 : Fin 1)) = BitVec.ofNat 32 (row V 100001 (by decide) 1 r).val :=
  wrap_apply _ _ _ _ _ r _ ((idNat_lt _).trans (by decide)) (id1 h r)
/-- The wrapped row number of lookup 2 (ages, vectors) is the id's. -/
theorem call2 : res_main_call2_v5 V (ix2 r (0 : Fin 1)) = BitVec.ofNat 32 (row V 8 (by decide) 3 r).val :=
  wrap_apply _ _ _ _ _ r _ ((idNat_lt _).trans (by decide)) (id3 h r)
/-- The wrapped row number of lookup 3 (occupations, vectors) is the id's. -/
theorem call3 : res_main_call3_v5 V (ix2 r (0 : Fin 1)) = BitVec.ofNat 32 (row V 22 (by decide) 4 r).val :=
  wrap_apply _ _ _ _ _ r _ ((idNat_lt _).trans (by decide)) (id4 h r)
/-- The wrapped row number of lookup 4 (movie years, vectors) is the id's. -/
theorem call4 : res_main_call4_v5 V (ix2 r (0 : Fin 1)) = BitVec.ofNat 32 (row V 83 (by decide) 5 r).val :=
  wrap_apply _ _ _ _ _ r _ ((idNat_lt _).trans (by decide)) (id5 h r)
/-- The wrapped row number of lookup 5 (rating years, vectors) is the id's. -/
theorem call5 : res_main_call5_v5 V (ix2 r (0 : Fin 1)) = BitVec.ofNat 32 (row V 11 (by decide) 6 r).val :=
  wrap_apply _ _ _ _ _ r _ ((idNat_lt _).trans (by decide)) (id6 h r)
/-- The wrapped row number of lookup 6 (users, weights) is the id's. -/
theorem call6 : res_main_call6_v5 V (ix2 r (0 : Fin 1)) = BitVec.ofNat 32 (row V 1000001 (by decide) 0 r).val :=
  wrap_apply _ _ _ _ _ r _ ((idNat_lt _).trans (by decide)) (id0 h r)
/-- The wrapped row number of lookup 7 (movies, weights) is the id's. -/
theorem call7 : res_main_call7_v5 V (ix2 r (0 : Fin 1)) = BitVec.ofNat 32 (row V 100001 (by decide) 1 r).val :=
  wrap_apply _ _ _ _ _ r _ ((idNat_lt _).trans (by decide)) (id1 h r)
/-- The wrapped row number of lookup 8 (genders, weights) is the id's. -/
theorem call8 : res_main_call8_v5 V (ix2 r (0 : Fin 1)) = BitVec.ofNat 32 (row V 2 (by decide) 2 r).val :=
  wrap_apply _ _ _ _ _ r _ ((idNat_lt _).trans (by decide)) (id2 h r)
/-- The wrapped row number of lookup 9 (ages, weights) is the id's. -/
theorem call9 : res_main_call9_v5 V (ix2 r (0 : Fin 1)) = BitVec.ofNat 32 (row V 8 (by decide) 3 r).val :=
  wrap_apply _ _ _ _ _ r _ ((idNat_lt _).trans (by decide)) (id3 h r)
/-- The wrapped row number of lookup 10 (occupations, weights) is the id's. -/
theorem call10 : res_main_call10_v5 V (ix2 r (0 : Fin 1)) = BitVec.ofNat 32 (row V 22 (by decide) 4 r).val :=
  wrap_apply _ _ _ _ _ r _ ((idNat_lt _).trans (by decide)) (id4 h r)
/-- The wrapped row number of lookup 11 (movie years, weights) is the id's. -/
theorem call11 : res_main_call11_v5 V (ix2 r (0 : Fin 1)) = BitVec.ofNat 32 (row V 83 (by decide) 5 r).val :=
  wrap_apply _ _ _ _ _ r _ ((idNat_lt _).trans (by decide)) (id5 h r)
/-- The wrapped row number of lookup 12 (rating years, weights) is the id's. -/
theorem call12 : res_main_call12_v5 V (ix2 r (0 : Fin 1)) = BitVec.ofNat 32 (row V 11 (by decide) 6 r).val :=
  wrap_apply _ _ _ _ _ r _ ((idNat_lt _).trans (by decide)) (id6 h r)

omit h r in
/-- The row number of the crossed feature: 83 times the age id plus the movie year's id. -/
def crossRow (V : Valuation τ sig (Elt Ideal)) (r : Fin 16384) : Fin 664 :=
  ⟨idNat (xs V (ix2 r 3)) * 83 + idNat (xs V (ix2 r 5)), by
    have := idNat_lt (xs V (ix2 r 3)); have := idNat_lt (xs V (ix2 r 5)); omega⟩

/-- The crossed id: 83 times the age's id plus the movie year's. -/
theorem cross : res_main_v31 V (ix1 r) = BitVec.ofNat 32 (crossRow V r).val := by
  pointwise [res_main_v31]
  rw [id3 h r, id5 h r]
  show BitVec.ofNat 32 _ * BitVec.ofNat 32 83 + BitVec.ofNat 32 _ = _
  rw [← BitVec.ofNat_mul, ← BitVec.ofNat_add]
  rfl

/-- The wrapped row number of the pairs' lookup is the crossed id's. -/
theorem call13 : res_main_call13_v5 V (ix2 r (0 : Fin 1)) = BitVec.ofNat 32 (crossRow V r).val :=
  wrap_apply _ _ _ _ _ r _ ((crossRow V r).isLt.trans (by decide)) (cross h r)

omit h r in
/-- The wide part's seven lookups, added. -/
abbrev looked (V : Valuation τ sig (Elt Ideal)) : FVec Ideal S16384 .f32 := res_main_v51 V

/-- The wide part's seven lookups at a row. -/
theorem lookups : looked V (ix1 r)
    = wideUser V (ix2 (row V 1000001 (by decide) 0 r) (0 : Fin 1))
      + wideMovie V (ix2 (row V 100001 (by decide) 1 r) (0 : Fin 1))
      + wideGender V (ix2 (row V 2 (by decide) 2 r) (0 : Fin 1))
      + wideAge V (ix2 (row V 8 (by decide) 3 r) (0 : Fin 1))
      + wideOcc V (ix2 (row V 22 (by decide) 4 r) (0 : Fin 1))
      + wideMyear V (ix2 (row V 83 (by decide) 5 r) (0 : Fin 1))
      + wideRyear V (ix2 (row V 11 (by decide) 6 r) (0 : Fin 1)) := by
  unfold looked res_main_v51
  simp only [ValueIdx.addf_apply, Ideal.addf_def]
  exact congrArg₂ _ (congrArg₂ _ (congrArg₂ _ (congrArg₂ _ (congrArg₂ _ (congrArg₂ _
    (take_col_apply 1000000 rfl (by decide) _ rfl rfl rfl rfl rfl _ _ _ _ _ _ _ _ _ _ _ (call6 h) r)
    (take_col_apply 100000 rfl (by decide) _ rfl rfl rfl rfl rfl _ _ _ _ _ _ _ _ _ _ _ (call7 h) r))
    (take_col_apply 1 rfl (by decide) _ rfl rfl rfl rfl rfl _ _ _ _ _ _ _ _ _ _ _ (call8 h) r))
    (take_col_apply 7 rfl (by decide) _ rfl rfl rfl rfl rfl _ _ _ _ _ _ _ _ _ _ _ (call9 h) r))
    (take_col_apply 21 rfl (by decide) _ rfl rfl rfl rfl rfl _ _ _ _ _ _ _ _ _ _ _ (call10 h) r))
    (take_col_apply 82 rfl (by decide) _ rfl rfl rfl rfl rfl _ _ _ _ _ _ _ _ _ _ _ (call11 h) r))
    (take_col_apply 10 rfl (by decide) _ rfl rfl rfl rfl rfl _ _ _ _ _ _ _ _ _ _ _ (call12 h) r)

omit h r in
/-- Eight arrays side by side: 75 columns. -/
def joined (p0 p1 : FVec Ideal S16384x16 .f32) (p2 : FVec Ideal S16384x8 .f32) (p3 : FVec Ideal S16384x16 .f32)
    (p4 : FVec Ideal S16384x8 .f32) (p5 : FVec Ideal S16384x4 .f32) (p6 : FVec Ideal S16384x1 .f32) (p7 : FVec Ideal S16384x6 .f32) :
    FVec Ideal S16384x75 .f32 := fn_main_v62 (F := Ideal) p0 p1 p2 p3 p4 p5 p6 p7

omit h r in
/-- A row of eight arrays side by side, times a column of weights: the eight parts' sums. -/
theorem side_by_side (p0 p1 : FVec Ideal S16384x16 .f32) (p2 : FVec Ideal S16384x8 .f32) (p3 : FVec Ideal S16384x16 .f32)
    (p4 : FVec Ideal S16384x8 .f32) (p5 : FVec Ideal S16384x4 .f32) (p6 : FVec Ideal S16384x1 .f32) (p7 : FVec Ideal S16384x6 .f32)
    (W : FVec Ideal S75x256 .f32) (r : Fin 16384) (j : Fin 256) :
    ∑ k : Fin 75, joined p0 p1 p2 p3 p4 p5 p6 p7 (ix2 r k) * W (ix2 k j)
      = ∑ a, p0 (ix2 r a) * W (ix2 ⟨a.val, by omega⟩ j) + (∑ a, p1 (ix2 r a) * W (ix2 ⟨16 + a.val, by omega⟩ j) + (∑ a, p2 (ix2 r a) * W (ix2 ⟨32 + a.val, by omega⟩ j) + (∑ a, p3 (ix2 r a) * W (ix2 ⟨40 + a.val, by omega⟩ j) + (∑ a, p4 (ix2 r a) * W (ix2 ⟨56 + a.val, by omega⟩ j) + (∑ a, p5 (ix2 r a) * W (ix2 ⟨64 + a.val, by omega⟩ j) + (p6 (ix2 r (0 : Fin 1)) * W (ix2 68 j) + ∑ a : Fin 6, p7 (ix2 r a) * W (ix2 ⟨69 + a.val, by omega⟩ j))))))) := by
  pointwise [joined, fn_main_v62, sumSplitAll]
  simp only [Fin.sum_univ_one, ← Nat.add_assoc, Nat.reduceAdd]

omit h in
/-- The looked-up crossed feature. -/
def crossTerm (V : Valuation τ sig (Elt Ideal)) : FVec Ideal S16384 .f32 :=
  shapeCast _ (select (broadcastInDim S16384x1 ![0] bcast_S16384_S16384x1_0 (Host.reduce IntOp.andi (andi (cmpi .sge (res_main_call13_v5 V)
      (broadcastInDim S16384x1 ![] bcast_S_S16384x1 (constantI S_ 32 0#32))) (cmpi .sle (res_main_call13_v5 V)
      (broadcastInDim S16384x1 ![0, 1] bcast_S1x1_S16384x1_0_1 (broadcastInDim S1x1 ![1] bcast_S1_S1x1_1 (constantI S1 32 663#32)))))
      (constantI S_ 1 1#1) reducesTo_S16384x1_S16384_d1 h_S_)) (Host.gather gather_S664x1_S16384x1_S16384x1_1_0_n_n_0_1_11 (wideCross V)
      (res_main_call13_v5 V)) (broadcastInDim S16384x1 ![] bcast_S_S16384x1 (constant S_ .f32 0x7FC00000#32))) shapeCasts_S16384x1_S16384

/-- The pairs' lookup reads the crossed id's row. -/
theorem cross_lookup : crossTerm V (ix1 r) = wideCross V (ix2 (crossRow V r) (0 : Fin 1)) :=
  take_col_apply 663 rfl (by decide) _ rfl rfl rfl rfl rfl _ _ _ _ _ _ _ _ _ _ _ (call13 h) r

omit h r in
/-- One half. -/
abbrev half : EReal := Ideal.ofBits .f32 0x3F000000#32

omit h in
/-- The reference's last operations, from the looked-up parts on. -/
def last (wide : FVec Ideal S16384 .f32) (stat : FVec Ideal S16384x6 .f32) (cross : FVec Ideal S16384 .f32)
    (deepIn : FVec Ideal S16384x75 .f32) (ws : FVec Ideal S6x1 .f32) (wsb : FVec Ideal S1 .f32)
    (W0 : FVec Ideal S75x256 .f32) (b0 : FVec Ideal S256 .f32) (W1 : FVec Ideal S256x128 .f32) (b1 : FVec Ideal S128 .f32)
    (W2 : FVec Ideal S128x1 .f32) (b2 : FVec Ideal S1 .f32) : FVec Ideal S16384 .f32 :=
  shapeCast _ (addf
    (mulf (broadcastInDim S16384x1 ![0] bcast_S16384_S16384x1_0
        (addf (addf wide (shapeCast _ (addf (Host.dotGeneral dot_S16384x6_S6x1_S16384x1_1_0_0_1_n_n none stat ws)
          (broadcastInDim S16384x1 ![0, 1] bcast_S1x1_S16384x1_0_1 (broadcastInDim S1x1 ![1] bcast_S1_S1x1_1 wsb)))
          shapeCasts_S16384x1_S16384)) cross))
      (broadcastInDim S16384x1 ![] bcast_S_S16384x1 (constant S_ .f32 0x3F000000#32)))
    (mulf (addf (Host.dotGeneral dot_S16384x128_S128x1_S16384x1_1_0_0_1_n_n none
        (maximumf (addf (Host.dotGeneral dot_S16384x256_S256x128_S16384x128_1_0_0_1_n_n none
            (maximumf (addf (Host.dotGeneral dot_S16384x75_S75x256_S16384x256_1_0_0_1_n_n none deepIn W0)
                (broadcastInDim S16384x256 ![0, 1] bcast_S1x256_S16384x256_0_1 (broadcastInDim S1x256 ![1] bcast_S256_S1x256_1 b0)))
              (broadcastInDim S16384x256 ![] bcast_S_S16384x256 (constant S_ .f32 0x00000000#32))) W1)
            (broadcastInDim S16384x128 ![0, 1] bcast_S1x128_S16384x128_0_1 (broadcastInDim S1x128 ![1] bcast_S128_S1x128_1 b1)))
          (broadcastInDim S16384x128 ![] bcast_S_S16384x128 (constant S_ .f32 0x00000000#32))) W2)
        (broadcastInDim S16384x1 ![0, 1] bcast_S1x1_S16384x1_0_1 (broadcastInDim S1x1 ![1] bcast_S1_S1x1_1 b2)))
      (broadcastInDim S16384x1 ![] bcast_S_S16384x1 (constant S_ .f32 0x3F000000#32)))) shapeCasts_S16384x1_S16384

omit h in
/-- The reference's last lines at a row: the average of the wide and the deep part. -/
theorem last_apply (wide : FVec Ideal S16384 .f32) (stat : FVec Ideal S16384x6 .f32) (cross : FVec Ideal S16384 .f32)
    (deepIn : FVec Ideal S16384x75 .f32) (ws : FVec Ideal S6x1 .f32) (wsb : FVec Ideal S1 .f32)
    (W0 : FVec Ideal S75x256 .f32) (b0 : FVec Ideal S256 .f32) (W1 : FVec Ideal S256x128 .f32) (b1 : FVec Ideal S128 .f32)
    (W2 : FVec Ideal S128x1 .f32) (b2 : FVec Ideal S1 .f32) : last wide stat cross deepIn ws wsb W0 b0 W1 b1 W2 b2 (ix1 r)
      = (wide (ix1 r) + (∑ s, stat (ix2 r s) * ws (ix2 s (0 : Fin 1)) + wsb (ix1 (0 : Fin 1))) + cross (ix1 r)) * half
        + (∑ j, max (∑ k, max (∑ i, deepIn (ix2 r i) * W0 (ix2 i k) + b0 (ix1 k)) 0 * W1 (ix2 k j) + b1 (ix1 j)) 0 * W2 (ix2 j (0 : Fin 1))
          + b2 (ix1 (0 : Fin 1))) * half := by
  pointwise [last]

omit h in
/-- The reference's result, of the arguments' contents. -/
def out (V : Valuation τ sig (Elt Ideal)) : FVec Ideal S16384 .f32 :=
  last (res_main_v51 V) (res_main_v22 V) (crossTerm V) (res_main_v62 V) (statW V) (statB V) (wt0 V) (bs0 V) (wt1 V) (bs1 V) (wt2 V) (bs2 V)

omit h in
/-- The statistics are columns 7 to 12 of the ids. -/
theorem stat_apply (s : Fin 6) : (res_main_v22 V : FVec Ideal S16384x6 .f32) (ix2 r s) = xs V (ix2 r ⟨7 + s.val, by omega⟩) := by
  pointwise [res_main_v22]

omit h in
/-- The gender's column of the ids. -/
theorem gender_apply : (extractStridedSlice S16384x1 ![0, 2] (xs V) slices_S16384x13_S16384x1_0_2 : FVec Ideal S16384x1 .f32) (ix2 r (0 : Fin 1))
    = xs V (ix2 r 2) := by
  pointwise

omit h r in
/-- The first layer's input. -/
abbrev deepIn (V : Valuation τ sig (Elt Ideal)) : FVec Ideal S16384x75 .f32 := res_main_v62 V

omit h r in
/-- The rows looked up in `userEmb`. -/
def took0 (V : Valuation τ sig (Elt Ideal)) : FVec Ideal S16384x16 .f32 :=
  select (broadcastInDim S16384x16 ![0] bcast_S16384_S16384x16_0 (Host.reduce IntOp.andi (andi (cmpi .sge (res_main_call0_v5 V)
    (broadcastInDim S16384x1 ![] bcast_S_S16384x1 (constantI S_ 32 0#32))) (cmpi .sle (res_main_call0_v5 V)
    (broadcastInDim S16384x1 ![0, 1] bcast_S1x1_S16384x1_0_1 (broadcastInDim S1x1 ![1] bcast_S1_S1x1_1 (constantI S1 32 1000000#32)))))
    (constantI S_ 1 1#1) reducesTo_S16384x1_S16384_d1 h_S_)) (Host.gather gather_S1000001x16_S16384x1_S16384x16_1_0_n_n_0_1_116 (userEmb V)
    (res_main_call0_v5 V)) (broadcastInDim S16384x16 ![] bcast_S_S16384x16 (constant S_ .f32 0x7FC00000#32))

/-- Lookup 0 reads the id's row of the users' vectors. -/
theorem took0_apply (a : Fin 16) : took0 V (ix2 r a) = userEmb V (ix2 (row V 1000001 (by decide) 0 r) a) :=
  take_apply 1000000 rfl (by decide) _ rfl rfl rfl rfl rfl _ _ _ _ _ _ _ _ _ _ (call0 h) r a

omit h r in
/-- The rows looked up in `movieEmb`. -/
def took1 (V : Valuation τ sig (Elt Ideal)) : FVec Ideal S16384x16 .f32 :=
  select (broadcastInDim S16384x16 ![0] bcast_S16384_S16384x16_0 (Host.reduce IntOp.andi (andi (cmpi .sge (res_main_call1_v5 V)
    (broadcastInDim S16384x1 ![] bcast_S_S16384x1 (constantI S_ 32 0#32))) (cmpi .sle (res_main_call1_v5 V)
    (broadcastInDim S16384x1 ![0, 1] bcast_S1x1_S16384x1_0_1 (broadcastInDim S1x1 ![1] bcast_S1_S1x1_1 (constantI S1 32 100000#32)))))
    (constantI S_ 1 1#1) reducesTo_S16384x1_S16384_d1 h_S_)) (Host.gather gather_S100001x16_S16384x1_S16384x16_1_0_n_n_0_1_116 (movieEmb V)
    (res_main_call1_v5 V)) (broadcastInDim S16384x16 ![] bcast_S_S16384x16 (constant S_ .f32 0x7FC00000#32))

/-- Lookup 1 reads the id's row of the movies' vectors. -/
theorem took1_apply (a : Fin 16) : took1 V (ix2 r a) = movieEmb V (ix2 (row V 100001 (by decide) 1 r) a) :=
  take_apply 100000 rfl (by decide) _ rfl rfl rfl rfl rfl _ _ _ _ _ _ _ _ _ _ (call1 h) r a

omit h r in
/-- The rows looked up in `ageEmb`. -/
def took2 (V : Valuation τ sig (Elt Ideal)) : FVec Ideal S16384x8 .f32 :=
  select (broadcastInDim S16384x8 ![0] bcast_S16384_S16384x8_0 (Host.reduce IntOp.andi (andi (cmpi .sge (res_main_call2_v5 V)
    (broadcastInDim S16384x1 ![] bcast_S_S16384x1 (constantI S_ 32 0#32))) (cmpi .sle (res_main_call2_v5 V)
    (broadcastInDim S16384x1 ![0, 1] bcast_S1x1_S16384x1_0_1 (broadcastInDim S1x1 ![1] bcast_S1_S1x1_1 (constantI S1 32 7#32)))))
    (constantI S_ 1 1#1) reducesTo_S16384x1_S16384_d1 h_S_)) (Host.gather gather_S8x8_S16384x1_S16384x8_1_0_n_n_0_1_18 (ageEmb V)
    (res_main_call2_v5 V)) (broadcastInDim S16384x8 ![] bcast_S_S16384x8 (constant S_ .f32 0x7FC00000#32))

/-- Lookup 2 reads the id's row of the ages' vectors. -/
theorem took2_apply (a : Fin 8) : took2 V (ix2 r a) = ageEmb V (ix2 (row V 8 (by decide) 3 r) a) :=
  take_apply 7 rfl (by decide) _ rfl rfl rfl rfl rfl _ _ _ _ _ _ _ _ _ _ (call2 h) r a

omit h r in
/-- The rows looked up in `occEmb`. -/
def took3 (V : Valuation τ sig (Elt Ideal)) : FVec Ideal S16384x16 .f32 :=
  select (broadcastInDim S16384x16 ![0] bcast_S16384_S16384x16_0 (Host.reduce IntOp.andi (andi (cmpi .sge (res_main_call3_v5 V)
    (broadcastInDim S16384x1 ![] bcast_S_S16384x1 (constantI S_ 32 0#32))) (cmpi .sle (res_main_call3_v5 V)
    (broadcastInDim S16384x1 ![0, 1] bcast_S1x1_S16384x1_0_1 (broadcastInDim S1x1 ![1] bcast_S1_S1x1_1 (constantI S1 32 21#32)))))
    (constantI S_ 1 1#1) reducesTo_S16384x1_S16384_d1 h_S_)) (Host.gather gather_S22x16_S16384x1_S16384x16_1_0_n_n_0_1_116 (occEmb V)
    (res_main_call3_v5 V)) (broadcastInDim S16384x16 ![] bcast_S_S16384x16 (constant S_ .f32 0x7FC00000#32))

/-- Lookup 3 reads the id's row of the occupations' vectors. -/
theorem took3_apply (a : Fin 16) : took3 V (ix2 r a) = occEmb V (ix2 (row V 22 (by decide) 4 r) a) :=
  take_apply 21 rfl (by decide) _ rfl rfl rfl rfl rfl _ _ _ _ _ _ _ _ _ _ (call3 h) r a

omit h r in
/-- The rows looked up in `myearEmb`. -/
def took4 (V : Valuation τ sig (Elt Ideal)) : FVec Ideal S16384x8 .f32 :=
  select (broadcastInDim S16384x8 ![0] bcast_S16384_S16384x8_0 (Host.reduce IntOp.andi (andi (cmpi .sge (res_main_call4_v5 V)
    (broadcastInDim S16384x1 ![] bcast_S_S16384x1 (constantI S_ 32 0#32))) (cmpi .sle (res_main_call4_v5 V)
    (broadcastInDim S16384x1 ![0, 1] bcast_S1x1_S16384x1_0_1 (broadcastInDim S1x1 ![1] bcast_S1_S1x1_1 (constantI S1 32 82#32)))))
    (constantI S_ 1 1#1) reducesTo_S16384x1_S16384_d1 h_S_)) (Host.gather gather_S83x8_S16384x1_S16384x8_1_0_n_n_0_1_18 (myearEmb V)
    (res_main_call4_v5 V)) (broadcastInDim S16384x8 ![] bcast_S_S16384x8 (constant S_ .f32 0x7FC00000#32))

/-- Lookup 4 reads the id's row of the movie years' vectors. -/
theorem took4_apply (a : Fin 8) : took4 V (ix2 r a) = myearEmb V (ix2 (row V 83 (by decide) 5 r) a) :=
  take_apply 82 rfl (by decide) _ rfl rfl rfl rfl rfl _ _ _ _ _ _ _ _ _ _ (call4 h) r a

omit h r in
/-- The rows looked up in `ryearEmb`. -/
def took5 (V : Valuation τ sig (Elt Ideal)) : FVec Ideal S16384x4 .f32 :=
  select (broadcastInDim S16384x4 ![0] bcast_S16384_S16384x4_0 (Host.reduce IntOp.andi (andi (cmpi .sge (res_main_call5_v5 V)
    (broadcastInDim S16384x1 ![] bcast_S_S16384x1 (constantI S_ 32 0#32))) (cmpi .sle (res_main_call5_v5 V)
    (broadcastInDim S16384x1 ![0, 1] bcast_S1x1_S16384x1_0_1 (broadcastInDim S1x1 ![1] bcast_S1_S1x1_1 (constantI S1 32 10#32)))))
    (constantI S_ 1 1#1) reducesTo_S16384x1_S16384_d1 h_S_)) (Host.gather gather_S11x4_S16384x1_S16384x4_1_0_n_n_0_1_14 (ryearEmb V)
    (res_main_call5_v5 V)) (broadcastInDim S16384x4 ![] bcast_S_S16384x4 (constant S_ .f32 0x7FC00000#32))

/-- Lookup 5 reads the id's row of the rating years' vectors. -/
theorem took5_apply (a : Fin 4) : took5 V (ix2 r a) = ryearEmb V (ix2 (row V 11 (by decide) 6 r) a) :=
  take_apply 10 rfl (by decide) _ rfl rfl rfl rfl rfl _ _ _ _ _ _ _ _ _ _ (call5 h) r a

omit h r in
/-- The gender column of the ids. -/
def gender (V : Valuation τ sig (Elt Ideal)) : FVec Ideal S16384x1 .f32 :=
  extractStridedSlice S16384x1 ![0, 2] (xs V) slices_S16384x13_S16384x1_0_2

omit h in
/-- The gender's input of the first layer is column 2. -/
theorem gender_eq : gender V (ix2 r (0 : Fin 1)) = xs V (ix2 r 2) := gender_apply r

omit h r in
/-- The first layer's inputs are the eight parts side by side. -/
theorem deepIn_eq : deepIn V = joined (took0 V) (took1 V) (took2 V) (took3 V) (took4 V) (took5 V) (gender V) (res_main_v22 V) := rfl

/-- The first layer's sum over the 75 inputs of a row: the six looked-up rows, the gender id and the six statistics. -/
theorem deep_apply (j : Fin 256) : ∑ k : Fin 75, deepIn V (ix2 r k) * wt0 V (ix2 k j)
    = ∑ a, userEmb V (ix2 (row V 1000001 (by decide) 0 r) a) * wt0 V (ix2 ⟨a.val, by omega⟩ j) + (∑ a, movieEmb V (ix2 (row V 100001 (by decide) 1 r) a) * wt0 V (ix2 ⟨16 + a.val, by omega⟩ j) + (∑ a, ageEmb V (ix2 (row V 8 (by decide) 3 r) a) * wt0 V (ix2 ⟨32 + a.val, by omega⟩ j) + (∑ a, occEmb V (ix2 (row V 22 (by decide) 4 r) a) * wt0 V (ix2 ⟨40 + a.val, by omega⟩ j) + (∑ a, myearEmb V (ix2 (row V 83 (by decide) 5 r) a) * wt0 V (ix2 ⟨56 + a.val, by omega⟩ j) + (∑ a, ryearEmb V (ix2 (row V 11 (by decide) 6 r) a) * wt0 V (ix2 ⟨64 + a.val, by omega⟩ j) + (xs V (ix2 r 2) * wt0 V (ix2 68 j) + ∑ a : Fin 6, xs V (ix2 r ⟨7 + a.val, by omega⟩) * wt0 V (ix2 ⟨69 + a.val, by omega⟩ j))))))) := by
  rw [deepIn_eq, side_by_side]
  simp only [took0_apply h r, took1_apply h r, took2_apply h r, took3_apply h r, took4_apply h r, took5_apply h r, gender_eq, stat_apply]

/-- The reference's result at a row, of the arguments' contents. -/
theorem out_apply : out V (ix1 r)
    = (looked V (ix1 r) + (∑ s : Fin 6, xs V (ix2 r ⟨7 + s.val, by omega⟩) * statW V (ix2 s (0 : Fin 1)) + statB V (ix1 (0 : Fin 1)))
        + wideCross V (ix2 (crossRow V r) (0 : Fin 1))) * half
      + (∑ j, max (∑ k, max (∑ i, deepIn V (ix2 r i) * wt0 V (ix2 i k) + bs0 V (ix1 k)) 0 * wt1 V (ix2 k j) + bs1 V (ix1 j)) 0
          * wt2 V (ix2 j (0 : Fin 1)) + bs2 V (ix1 (0 : Fin 1))) * half := by
  unfold out
  rw [last_apply, cross_lookup h r]
  simp only [stat_apply]

omit h r in
/-- Every run of the reference ends with its result at `out` of the launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = out (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  Value.run m ρ

end Cert.RefRow
end
-- ==== Proof.Equation.lean ====
/-
  THE EQUATION. With every id 0 or 1 and the rows it can name finite, a row of the kernel's result is that row of the
  reference's: a looked-up row is the first row plus the id times the difference of the two.
-/
module

public import proofs.«01_k».proof.Proof.Pre
public import proofs.«01_k».proof.Proof.KernelValue
public import proofs.«01_k».proof.Proof.RefRow

@[expose] public section

set_option maxRecDepth 16384

noncomputable section

namespace Cert.Equation

open Idealize.ShloMosaic Idealize.ShloMosaic.TcCoe Idealize.SL.Sem Cert.Math Cert.Take

variable (V : Valuation ReferenceIdeal.τ ReferenceIdeal.sig (Elt Ideal))
variable (m : (ℓ : Loc KernelIdeal.nD KernelIdeal.τ KernelIdeal.sig) → Buf (Elt Ideal) ℓ) (c : Dev KernelIdeal.nD)

/-- The two programs' arguments agree. -/
structure Agree : Prop where
  xs : RefRow.xs V = KernelBlocks.xs m c
  userEmb : RefRow.userEmb V = KernelBlocks.userEmb m c
  movieEmb : RefRow.movieEmb V = KernelBlocks.movieEmb m c
  ageEmb : RefRow.ageEmb V = KernelBlocks.ageEmb m c
  occEmb : RefRow.occEmb V = KernelBlocks.occEmb m c
  myearEmb : RefRow.myearEmb V = KernelBlocks.myearEmb m c
  ryearEmb : RefRow.ryearEmb V = KernelBlocks.ryearEmb m c
  wideUser : RefRow.wideUser V = KernelBlocks.wideUser m c
  wideMovie : RefRow.wideMovie V = KernelBlocks.wideMovie m c
  wideGender : RefRow.wideGender V = KernelBlocks.wideGender m c
  wideAge : RefRow.wideAge V = KernelBlocks.wideAge m c
  wideOcc : RefRow.wideOcc V = KernelBlocks.wideOcc m c
  wideMyear : RefRow.wideMyear V = KernelBlocks.wideMyear m c
  wideRyear : RefRow.wideRyear V = KernelBlocks.wideRyear m c
  statW : RefRow.statW V = KernelBlocks.statW m c
  statB : RefRow.statB V = KernelBlocks.statB m c
  wideCross : RefRow.wideCross V = KernelBlocks.wideCross m c
  wt0 : RefRow.wt0 V = KernelBlocks.wt0 m c
  bs0 : RefRow.bs0 V = KernelBlocks.bs0 m c
  wt1 : RefRow.wt1 V = KernelBlocks.wt1 m c
  bs1 : RefRow.bs1 V = KernelBlocks.bs1 m c
  wt2 : RefRow.wt2 V = KernelBlocks.wt2 m c
  bs2 : RefRow.bs2 V = KernelBlocks.bs2 m c

variable {V m c} (A : Agree V m c)
variable (h : Cert.Pre_KernelIdeal_zero_one_ids (hPre_zero_one_ids := Pre.facts) m)

include A h in
/-- The reference's ids are 0 or 1. -/
theorem ids : RefRow.Ids V := fun r k hk => by
  rw [A.xs]
  exact Pre.ids h c r k hk

include A h in
/-- An id picks one of a table's first two rows. -/
theorem picks {N n : ℕ} (hN : 2 ≤ N) (T : FVec Ideal ⟨2, ![N, n]⟩ .f32) (k : Fin 13) (hk : k.val < 7) (r : Fin 16384) (z o : Fin N)
    (hz : z.val = 0) (ho : o.val = 1) : Picks (KernelBlocks.xs m c (ix2 r k)) (fun i : Fin n => T (ix2 z i)) (fun i => T (ix2 o i))
      (fun i => T (ix2 (RefRow.row V N hN k r) i)) := by
  have e : KernelBlocks.xs m c (ix2 r k) = RefRow.xs V (ix2 r k) := congrFun A.xs.symm _
  rcases ids A h r k hk with h0 | h1
  · refine .inl ⟨e.trans h0, ?_⟩
    rw [show RefRow.row V N hN k r = z from Fin.ext (by simp [RefRow.row, idNat, h0, hz])]
  · refine .inr ⟨e.trans h1, ?_⟩
    rw [show RefRow.row V N hN k r = o from Fin.ext (by simp [RefRow.row, idNat, h1, ho])]

include A h in
/-- An id picks one of a column's first two entries. -/
theorem picks_col {N : ℕ} (hN : 2 ≤ N) (T : FVec Ideal ⟨2, ![N, 1]⟩ .f32) (k : Fin 13) (hk : k.val < 7) (r : Fin 16384) (z o : Fin N)
    (hz : z.val = 0) (ho : o.val = 1) : Picks (KernelBlocks.xs m c (ix2 r k)) (T (ix2 z (0 : Fin 1))) (T (ix2 o (0 : Fin 1)))
      (T (ix2 (RefRow.row V N hN k r) (0 : Fin 1))) :=
  (picks A h hN T k hk r z o hz ho).imp (fun p => ⟨p.1, congrFun p.2 0⟩) fun p => ⟨p.1, congrFun p.2 0⟩

include A h in
/-- Two ids pick one of four entries of the crossed column. -/
theorem picks_cross (T : FVec Ideal ⟨2, ![664, 1]⟩ .f32) (r : Fin 16384) :
    Picks4 (KernelBlocks.xs m c (ix2 r 3)) (KernelBlocks.xs m c (ix2 r 5)) (T (ix2 0 (0 : Fin 1))) (T (ix2 1 (0 : Fin 1)))
      (T (ix2 83 (0 : Fin 1))) (T (ix2 84 (0 : Fin 1))) (T (ix2 (RefRow.crossRow V r) (0 : Fin 1))) := by
  have e3 : KernelBlocks.xs m c (ix2 r 3) = RefRow.xs V (ix2 r 3) := congrFun A.xs.symm _
  have e5 : KernelBlocks.xs m c (ix2 r 5) = RefRow.xs V (ix2 r 5) := congrFun A.xs.symm _
  have at_row : ∀ z : Fin 664, (RefRow.crossRow V r).val = z.val → T (ix2 (RefRow.crossRow V r) (0 : Fin 1)) = T (ix2 z (0 : Fin 1)) :=
    fun z hz => by rw [Fin.ext hz]
  unfold Picks4
  rw [e3, e5]
  rcases ids A h r 3 (by decide) with h3 | h3 <;> rcases ids A h r 5 (by decide) with h5 | h5
  · exact .inl ⟨h3, h5, at_row _ (by simp [RefRow.crossRow, idNat, h3, h5])⟩
  · exact .inr (.inl ⟨h3, h5, at_row _ (by simp [RefRow.crossRow, idNat, h3, h5])⟩)
  · exact .inr (.inr (.inl ⟨h3, h5, at_row _ (by simp [RefRow.crossRow, idNat, h3, h5])⟩))
  · exact .inr (.inr (.inr ⟨h3, h5, at_row _ (by simp [RefRow.crossRow, idNat, h3, h5])⟩))

include A h in
/-- The first layer before its maximum: the kernel's is the reference's. -/
theorem deep (R : Fin 16384) (k : Fin 256) :
    KernelBlocks.pre m c R k = ∑ i, RefRow.deepIn V (ix2 R i) * RefRow.wt0 V (ix2 i k) + RefRow.bs0 V (ix1 k) := by
  rw [RefRow.deep_apply (ids A h) R k, A.userEmb, A.movieEmb, A.ageEmb, A.occEmb, A.myearEmb, A.ryearEmb, A.wt0, A.bs0, A.xs]
  exact deep_eq
    (picks A h _ (KernelBlocks.userEmb m c) 0 (by decide) R 0 1 rfl rfl) (fun i => (Pre.user h c i).1) (fun i => (Pre.user h c i).2) (fun i => Pre.weights h c _ (by simp only []; omega) k)
    (picks A h _ (KernelBlocks.movieEmb m c) 1 (by decide) R 0 1 rfl rfl) (fun i => (Pre.movie h c i).1) (fun i => (Pre.movie h c i).2) (fun i => Pre.weights h c _ (by simp only []; omega) k)
    (picks A h _ (KernelBlocks.ageEmb m c) 3 (by decide) R 0 1 rfl rfl) (fun i => (Pre.age h c i).1) (fun i => (Pre.age h c i).2) (fun i => Pre.weights h c _ (by simp only []; omega) k)
    (picks A h _ (KernelBlocks.occEmb m c) 4 (by decide) R 0 1 rfl rfl) (fun i => (Pre.occ h c i).1) (fun i => (Pre.occ h c i).2) (fun i => Pre.weights h c _ (by simp only []; omega) k)
    (picks A h _ (KernelBlocks.myearEmb m c) 5 (by decide) R 0 1 rfl rfl) (fun i => (Pre.myear h c i).1) (fun i => (Pre.myear h c i).2) (fun i => Pre.weights h c _ (by simp only []; omega) k)
    (picks A h _ (KernelBlocks.ryearEmb m c) 6 (by decide) R 0 1 rfl rfl) (fun i => (Pre.ryear h c i).1) (fun i => (Pre.ryear h c i).2) (fun i => Pre.weights h c _ (by simp only []; omega) k)

include A h in
/-- The wide part: the kernel's is the reference's. -/
theorem wide (R : Fin 16384) :
    (KernelBlocks.wideSum m c R + KernelBlocks.wideBias m c)
        + max (KernelBlocks.xs m c (ix2 R 3) + KernelBlocks.xs m c (ix2 R 5) + -1) 0 * KernelBlocks.crossFactor m c
      = RefRow.looked V (ix1 R)
          + (∑ s : Fin 6, RefRow.xs V (ix2 R ⟨7 + s.val, by omega⟩) * RefRow.statW V (ix2 s (0 : Fin 1)) + RefRow.statB V (ix1 (0 : Fin 1)))
          + RefRow.wideCross V (ix2 (RefRow.crossRow V R) (0 : Fin 1)) := by
  rw [RefRow.lookups (ids A h) R, A.wideUser, A.wideMovie, A.wideGender, A.wideAge, A.wideOcc, A.wideMyear, A.wideRyear, A.statW, A.statB,
    A.wideCross, A.xs]
  exact wide_eq
    (picks_col A h _ (KernelBlocks.wideUser m c) 0 (by decide) R 0 1 rfl rfl) (Pre.wUser h c 0).1 (Pre.wUser h c 0).2
    (picks_col A h _ (KernelBlocks.wideMovie m c) 1 (by decide) R 0 1 rfl rfl) (Pre.wMovie h c 0).1 (Pre.wMovie h c 0).2
    (picks_col A h _ (KernelBlocks.wideGender m c) 2 (by decide) R 0 1 rfl rfl) (Pre.wGender h c 0 0) (Pre.wGender h c 1 0)
    (picks_col A h _ (KernelBlocks.wideOcc m c) 4 (by decide) R 0 1 rfl rfl) (Pre.wOcc h c 0).1 (Pre.wOcc h c 0).2
    (picks_col A h _ (KernelBlocks.wideRyear m c) 6 (by decide) R 0 1 rfl rfl) (Pre.wRyear h c 0).1 (Pre.wRyear h c 0).2
    (picks_col A h _ (KernelBlocks.wideAge m c) 3 (by decide) R 0 1 rfl rfl) (picks_col A h _ (KernelBlocks.wideMyear m c) 5 (by decide) R 0 1 rfl rfl)
    (picks_cross A h (KernelBlocks.wideCross m c) R) (Pre.wAge h c 0).1 (Pre.wAge h c 0).2 (Pre.wMyear h c 0).1 (Pre.wMyear h c 0).2
    (Pre.wCross h c 0).1.1 (Pre.wCross h c 0).1.2 (Pre.wCross h c 0).2.1 (Pre.wCross h c 0).2.2

include A h in
/-- A row of the kernel's result is that row of the reference's. -/
theorem row (R : Fin 16384) : KernelBlocks.rowOut m c R = RefRow.out V (ix1 R) := by
  rw [RefRow.out_apply (ids A h) R, ← wide A h R]
  unfold KernelBlocks.rowOut
  simp only [← deep A h R, A.wt1, A.bs1, A.wt2, A.bs2]
  rw [zero_add]
  exact average half_nonneg.1 half_nonneg.2 _ _ rfl

include A h in
/-- The kernel's result is the reference's. -/
theorem whole : KernelValue.result m c = RefRow.out V := by
  funext i
  rw [show i = ix1 (i 0) from funext fun a => by fin_cases a; rfl]
  exact row A h (i 0)

end Cert.Equation
end
-- ==== Proof.lean ====
/-
  THE CLAIMS. The two kernels' frames are their generated runs; the reference's is its generated run, and it declares no
  semaphore. The value claim: the kernel's run ends at the rows' results (`KernelValue.run`), the reference's at `RefRow.out`
  of its arguments (`RefRow.run`), and the two are equal wherever the precondition holds (`Equation.whole`).
-/
module

public import proofs.«01_k».proof.Defs
public import proofs.«01_k».proof.Proof.Gen.Kernel
public import proofs.«01_k».proof.Proof.Gen.Kernel.Frame
public import proofs.«01_k».proof.Proof.Equation

@[expose] public section

set_option maxRecDepth 16384

noncomputable section

namespace Cert.Proof

open Idealize.ShloMosaic Idealize.ShloMosaic.TcCoe Idealize.SL.Sem

/-- The reference runs, its arguments end as they began, and its counters at zero. -/
theorem reference_frame : Cert.quiescent_ReferenceIdeal := fun m g _ =>
  θ_run_mono (RefRow.run m g) fun r h => ⟨fun c => (h c).2, sem_eq_zero_of_no_sems (by decide) r.2⟩

/-- Under the precondition the kernel's result is the reference's, and both leave their arguments as they were. -/
theorem value : Cert.algebraic_KernelIdeal_ReferenceIdeal_pre_zero_one_ids (hPre_zero_one_ids := Pre.facts) := by
  intro m g m' g' hpre hagree
  refine ⟨fun c => KernelValue.result m c, KernelValue.run m g, θ_run_mono (RefRow.run m' g') fun r h c => ⟨(h c).1.trans ?_, (h c).2⟩⟩
  have A : Equation.Agree (StableHlo.launchContents m' c) m c := by
    obtain ⟨h0, h1, h2, h3, h4, h5, h6, h7, h8, h9, h10, h11, h12, h13, h14, h15, h16, h17, h18, h19, h20, h21, h22⟩ := hagree c
    exact ⟨h0, h1, h2, h3, h4, h5, h6, h7, h8, h9, h10, h11, h12, h13, h14, h15, h16, h17, h18, h19, h20, h21, h22⟩
  exact (Equation.whole A hpre).symm

/-- Every claim of the certificate. -/
theorem claim : Cert.Claim :=
  ⟨Cert.Kernel.Gen.facts, Cert.KernelIdeal.Gen.facts, Cert.ReferenceIdeal.Gen.facts, Pre.facts,
    fun m g _ => Cert.Kernel.Gen.frame m g, fun m g _ => Cert.KernelIdeal.Gen.frame m g, fun m g _ => Cert.KernelIdeal.Gen.frame m g,
    reference_frame, fun m g _ => reference_frame m g trivial, trivial, value⟩

end Cert.Proof

end
